-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![4096, 256]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![4096, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![4096, 256]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 4096]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![256, 4096]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 4096]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  main_v28

def fn {F : FTy → Type} [FloatOps F] (main_arg0 : FVec F S128x128 .f32) (main_arg1 : FVec F S128x256 .f32) (main_arg2 : FVec F S128x256 .f32) (main_arg3 : FVec F S128x256 .f32) (main_arg4 : FVec F S256x128 .f32) (main_arg5 : FVec F S256x128 .f32) (main_arg6 : FVec F S256x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_v13 main_v16
-- ==== Pre_finite_ReferenceIdeal.lean ====
abbrev S128x4096 : Shape := ⟨2, ![128, 4096]⟩
abbrev S4096x256 : Shape := ⟨2, ![4096, 256]⟩
abbrev S256x4096 : Shape := ⟨2, ![256, 4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x4096 : S_.BroadcastsInDim S256x4096 (![] : Fin 0 → Fin S256x4096.rank)
  reducesTo_S256x4096_S_d0_1 : S256x4096.ReducesTo [0, 1] S_

variable [Facts]

def fn_part1 {F : FTy → Type} [FloatOps F] (main_arg4 : FVec F S256x4096 .f32) (main_arg5 : FVec F S256x4096 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256x4096 .f32 := Host.absf main_arg4
  let main_cst_6 : FVec F S_ .f32 := constant S_ .f32 0x7F800000#32
  let main_v20 : FVec F S256x4096 .f32 := broadcastInDim S256x4096 ![] bcast_S_S256x4096 main_cst_6
  let main_v21 : IVec S256x4096 1 := cmpf .olt main_v19 main_v20
  let main_c_7 : IVec S_ 1 := constantI S_ 1 1#1
  let main_v22 : IVec S_ 1 := (fun x v => Host.reduce IntOp.andi x v reducesTo_S256x4096_S_d0_1 h_S_) main_v21 main_c_7
  let main_v23 : IVec S_ 1 := andi main_v18 main_v22
  let main_v24 : FVec F S256x4096 .f32 := Host.absf main_arg5
  let main_cst_8 : FVec F S_ .f32 := constant S_ .f32 0x7F800000#32
  let main_v25 : FVec F S256x4096 .f32 := broadcastInDim S256x4096 ![] bcast_S_S256x4096 main_cst_8
  let main_v26 : IVec S256x4096 1 := cmpf .olt main_v24 main_v25
  let main_c_9 : IVec S_ 1 := constantI S_ 1 1#1
  let main_v27 : IVec S_ 1 := (fun x v => Host.reduce IntOp.andi x v reducesTo_S256x4096_S_d0_1 h_S_) main_v26 main_c_9
  let main_v28 : IVec S_ 1 := andi main_v23 main_v27
  main_v28

def fn {F : FTy → Type} [FloatOps F] (main_arg0 : FVec F S128x4096 .f32) (main_arg1 : FVec F S4096x256 .f32) (main_arg2 : FVec F S4096x256 .f32) (main_arg3 : FVec F S4096x256 .f32) (main_arg4 : FVec F S256x4096 .f32) (main_arg5 : FVec F S256x4096 .f32) (main_arg6 : FVec F S256x4096 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_v13 main_v16
-- ==== Kernel.lean ====
abbrev S128x128 : Shape := ⟨2, ![128, 128]⟩
abbrev S128x256 : Shape := ⟨2, ![128, 256]⟩
abbrev S256x128 : Shape := ⟨2, ![256, 128]⟩
abbrev S512x256 : Shape := ⟨2, ![512, 256]⟩
abbrev S32x16x256 : Shape := ⟨3, ![32, 16, 256]⟩
abbrev S16x256 : Shape := ⟨2, ![16, 256]⟩
abbrev S32x4x256 : Shape := ⟨3, ![32, 4, 256]⟩
abbrev S4x256 : Shape := ⟨2, ![4, 256]⟩
abbrev S7 : Shape := ⟨1, ![7]⟩
abbrev S_ : Shape := ⟨0, ![]⟩
abbrev S1 : Shape := ⟨1, ![1]⟩
abbrev S256x256 : Shape := ⟨2, ![256, 256]⟩
abbrev S1x16x256 : Shape := ⟨3, ![1, 16, 256]⟩
abbrev S1x4x256 : Shape := ⟨3, ![1, 4, 256]⟩

abbrev nBuf : Space → Nat
  | .hbm => 8
  | .vmem => 16
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x256, .f32⟩
  | .local _ .vmem, ⟨3, _⟩ => ⟨S256x128, .f32⟩
  | .local _ .vmem, ⟨4, _⟩ => ⟨S128x256, .f32⟩
  | .local _ .vmem, ⟨5, _⟩ => ⟨S256x128, .f32⟩
  | .local _ .vmem, ⟨6, _⟩ => ⟨S128x256, .f32⟩
  | .local _ .vmem, ⟨7, _⟩ => ⟨S256x128, .f32⟩
  | .local _ .vmem, ⟨8, _⟩ => ⟨S128x256, .f32⟩
  | .local _ .vmem, ⟨9, _⟩ => ⟨S512x256, .bf16⟩
  | .local _ .vmem, ⟨10, _⟩ => ⟨S32x16x256, .bf16⟩
  | .local _ .vmem, ⟨11, _⟩ => ⟨S16x256, .bf16⟩
  | .local _ .vmem, ⟨12, _⟩ => ⟨S512x256, .bf16⟩
  | .local _ .vmem, ⟨13, _⟩ => ⟨S32x4x256, .f32⟩
  | .local _ .vmem, ⟨14, _⟩ => ⟨S4x256, .f32⟩
  | .local _ .vmem, ⟨15, _⟩ => ⟨S128x256, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 : Nat :=
  let c0_i32_4 : BitVec 32 := 0#32
  let c0_i32_2 : BitVec 32 := 0#32
  let c1_i32_3 : BitVec 32 := 1#32
  let v18 : BitVec 32 := Scalar.muli c0_i32_2 c1_i32_3
  let v19 : BitVec 32 := Scalar.addi c0_i32_4 v18
  v19.toNat
def k0_dev2 : Nat :=
  let c0_i32_8 : BitVec 32 := 0#32
  let c1_i32_6 : BitVec 32 := 1#32
  let c1_i32_7 : BitVec 32 := 1#32
  let v20 : BitVec 32 := Scalar.muli c1_i32_6 c1_i32_7
  let v21 : BitVec 32 := Scalar.addi c0_i32_8 v20
  v21.toNat
def k0_dev3 : Nat :=
  let c0_i32_12 : BitVec 32 := 0#32
  let c2_i32_10 : BitVec 32 := 2#32
  let c1_i32_11 : BitVec 32 := 1#32
  let v22 : BitVec 32 := Scalar.muli c2_i32_10 c1_i32_11
  let v23 : BitVec 32 := Scalar.addi c0_i32_12 v22
  v23.toNat
def k0_dev4 : Nat :=
  let c0_i32_16 : BitVec 32 := 0#32
  let c3_i32_14 : BitVec 32 := 3#32
  let c1_i32_15 : BitVec 32 := 1#32
  let v24 : BitVec 32 := Scalar.muli c3_i32_14 c1_i32_15
  let v25 : BitVec 32 := Scalar.addi c0_i32_16 v24
  v25.toNat
def k0_dev5 : Nat :=
  let c0_i32_20 : BitVec 32 := 0#32
  let c4_i32_18 : BitVec 32 := 4#32
  let c1_i32_19 : BitVec 32 := 1#32
  let v26 : BitVec 32 := Scalar.muli c4_i32_18 c1_i32_19
  let v27 : BitVec 32 := Scalar.addi c0_i32_20 v26
  v27.toNat
def k0_dev6 : Nat :=
  let c0_i32_24 : BitVec 32 := 0#32
  let c5_i32_22 : BitVec 32 := 5#32
  let c1_i32_23 : BitVec 32 := 1#32
  let v28 : BitVec 32 := Scalar.muli c5_i32_22 c1_i32_23
  let v29 : BitVec 32 := Scalar.addi c0_i32_24 v28
  v29.toNat
def k0_dev7 : Nat :=
  let c0_i32_28 : BitVec 32 := 0#32
  let c6_i32_26 : BitVec 32 := 6#32
  let c1_i32_27 : BitVec 32 := 1#32
  let v30 : BitVec 32 := Scalar.muli c6_i32_26 c1_i32_27
  let v31 : BitVec 32 := Scalar.addi c0_i32_28 v30
  v31.toNat
def k0_dev8 : Nat :=
  let c0_i32_31 : BitVec 32 := 0#32
  let c7_i32 : BitVec 32 := 7#32
  let c1_i32_30 : BitVec 32 := 1#32
  let v32 : BitVec 32 := Scalar.muli c7_i32 c1_i32_30
  let v33 : BitVec 32 := Scalar.addi c0_i32_31 v32
  v33.toNat
def k0_dev9 : Nat :=
  let c0_i32_34 : BitVec 32 := 0#32
  let c8_i32 : BitVec 32 := 8#32
  let c1_i32_33 : BitVec 32 := 1#32
  let v34 : BitVec 32 := Scalar.muli c8_i32 c1_i32_33
  let v35 : BitVec 32 := Scalar.addi c0_i32_34 v34
  v35.toNat
def k0_dev10 : Nat :=
  let c0_i32_37 : BitVec 32 := 0#32
  let c9_i32 : BitVec 32 := 9#32
  let c1_i32_36 : BitVec 32 := 1#32
  let v36 : BitVec 32 := Scalar.muli c9_i32 c1_i32_36
  let v37 : BitVec 32 := Scalar.addi c0_i32_37 v36
  v37.toNat
def k0_dev11 : Nat :=
  let c0_i32_40 : BitVec 32 := 0#32
  let c10_i32 : BitVec 32 := 10#32
  let c1_i32_39 : BitVec 32 := 1#32
  let v38 : BitVec 32 := Scalar.muli c10_i32 c1_i32_39
  let v39 : BitVec 32 := Scalar.addi c0_i32_40 v38
  v39.toNat
def k0_dev12 : Nat :=
  let c0_i32_43 : BitVec 32 := 0#32
  let c11_i32 : BitVec 32 := 11#32
  let c1_i32_42 : BitVec 32 := 1#32
  let v40 : BitVec 32 := Scalar.muli c11_i32 c1_i32_42
  let v41 : BitVec 32 := Scalar.addi c0_i32_43 v40
  v41.toNat
def k0_dev13 : Nat :=
  let c0_i32_46 : BitVec 32 := 0#32
  let c12_i32 : BitVec 32 := 12#32
  let c1_i32_45 : BitVec 32 := 1#32
  let v42 : BitVec 32 := Scalar.muli c12_i32 c1_i32_45
  let v43 : BitVec 32 := Scalar.addi c0_i32_46 v42
  v43.toNat
def k0_dev14 : Nat :=
  let c0_i32_49 : BitVec 32 := 0#32
  let c13_i32 : BitVec 32 := 13#32
  let c1_i32_48 : BitVec 32 := 1#32
  let v44 : BitVec 32 := Scalar.muli c13_i32 c1_i32_48
  let v45 : BitVec 32 := Scalar.addi c0_i32_49 v44
  v45.toNat
def k0_dev15 : Nat :=
  let c0_i32_52 : BitVec 32 := 0#32
  let c14_i32 : BitVec 32 := 14#32
  let c1_i32_51 : BitVec 32 := 1#32
  let v46 : BitVec 32 := Scalar.muli c14_i32 c1_i32_51
  let v47 : BitVec 32 := Scalar.addi c0_i32_52 v46
  v47.toNat
def k0_dev16 : Nat :=
  let c0_i32_55 : BitVec 32 := 0#32
  let c15_i32 : BitVec 32 := 15#32
  let c1_i32_54 : BitVec 32 := 1#32
  let v48 : BitVec 32 := Scalar.muli c15_i32 c1_i32_54
  let v49 : BitVec 32 := Scalar.addi c0_i32_55 v48
  v49.toNat
def k0_dev17 : Nat :=
  let c0_i32_58 : BitVec 32 := 0#32
  let c16_i32 : BitVec 32 := 16#32
  let c1_i32_57 : BitVec 32 := 1#32
  let v50 : BitVec 32 := Scalar.muli c16_i32 c1_i32_57
  let v51 : BitVec 32 := Scalar.addi c0_i32_58 v50
  v51.toNat
def k0_dev18 : Nat :=
  let c0_i32_61 : BitVec 32 := 0#32
  let c17_i32 : BitVec 32 := 17#32
  let c1_i32_60 : BitVec 32 := 1#32
  let v52 : BitVec 32 := Scalar.muli c17_i32 c1_i32_60
  let v53 : BitVec 32 := Scalar.addi c0_i32_61 v52
  v53.toNat
def k0_dev19 : Nat :=
  let c0_i32_64 : BitVec 32 := 0#32
  let c18_i32 : BitVec 32 := 18#32
  let c1_i32_63 : BitVec 32 := 1#32
  let v54 : BitVec 32 := Scalar.muli c18_i32 c1_i32_63
  let v55 : BitVec 32 := Scalar.addi c0_i32_64 v54
  v55.toNat
def k0_dev20 : Nat :=
  let c0_i32_67 : BitVec 32 := 0#32
  let c19_i32 : BitVec 32 := 19#32
  let c1_i32_66 : BitVec 32 := 1#32
  let v56 : BitVec 32 := Scalar.muli c19_i32 c1_i32_66
  let v57 : BitVec 32 := Scalar.addi c0_i32_67 v56
  v57.toNat
def k0_dev21 : Nat :=
  let c0_i32_70 : BitVec 32 := 0#32
  let c20_i32 : BitVec 32 := 20#32
  let c1_i32_69 : BitVec 32 := 1#32
  let v58 : BitVec 32 := Scalar.muli c20_i32 c1_i32_69
  let v59 : BitVec 32 := Scalar.addi c0_i32_70 v58
  v59.toNat
def k0_dev22 : Nat :=
  let c0_i32_73 : BitVec 32 := 0#32
  let c21_i32 : BitVec 32 := 21#32
  let c1_i32_72 : BitVec 32 := 1#32
  let v60 : BitVec 32 := Scalar.muli c21_i32 c1_i32_72
  let v61 : BitVec 32 := Scalar.addi c0_i32_73 v60
  v61.toNat
def k0_dev23 : Nat :=
  let c0_i32_76 : BitVec 32 := 0#32
  let c22_i32 : BitVec 32 := 22#32
  let c1_i32_75 : BitVec 32 := 1#32
  let v62 : BitVec 32 := Scalar.muli c22_i32 c1_i32_75
  let v63 : BitVec 32 := Scalar.addi c0_i32_76 v62
  v63.toNat
def k0_dev24 : Nat :=
  let c0_i32_79 : BitVec 32 := 0#32
  let c23_i32 : BitVec 32 := 23#32
  let c1_i32_78 : BitVec 32 := 1#32
  let v64 : BitVec 32 := Scalar.muli c23_i32 c1_i32_78
  let v65 : BitVec 32 := Scalar.addi c0_i32_79 v64
  v65.toNat
def k0_dev25 : Nat :=
  let c0_i32_82 : BitVec 32 := 0#32
  let c24_i32 : BitVec 32 := 24#32
  let c1_i32_81 : BitVec 32 := 1#32
  let v66 : BitVec 32 := Scalar.muli c24_i32 c1_i32_81
  let v67 : BitVec 32 := Scalar.addi c0_i32_82 v66
  v67.toNat
def k0_dev26 : Nat :=
  let c0_i32_85 : BitVec 32 := 0#32
  let c25_i32 : BitVec 32 := 25#32
  let c1_i32_84 : BitVec 32 := 1#32
  let v68 : BitVec 32 := Scalar.muli c25_i32 c1_i32_84
  let v69 : BitVec 32 := Scalar.addi c0_i32_85 v68
  v69.toNat
def k0_dev27 : Nat :=
  let c0_i32_88 : BitVec 32 := 0#32
  let c26_i32 : BitVec 32 := 26#32
  let c1_i32_87 : BitVec 32 := 1#32
  let v70 : BitVec 32 := Scalar.muli c26_i32 c1_i32_87
  let v71 : BitVec 32 := Scalar.addi c0_i32_88 v70
  v71.toNat
def k0_dev28 : Nat :=
  let c0_i32_91 : BitVec 32 := 0#32
  let c27_i32 : BitVec 32 := 27#32
  let c1_i32_90 : BitVec 32 := 1#32
  let v72 : BitVec 32 := Scalar.muli c27_i32 c1_i32_90
  let v73 : BitVec 32 := Scalar.addi c0_i32_91 v72
  v73.toNat
def k0_dev29 : Nat :=
  let c0_i32_94 : BitVec 32 := 0#32
  let c28_i32 : BitVec 32 := 28#32
  let c1_i32_93 : BitVec 32 := 1#32
  let v74 : BitVec 32 := Scalar.muli c28_i32 c1_i32_93
  let v75 : BitVec 32 := Scalar.addi c0_i32_94 v74
  v75.toNat
def k0_dev30 : Nat :=
  let c0_i32_97 : BitVec 32 := 0#32
  let c29_i32 : BitVec 32 := 29#32
  let c1_i32_96 : BitVec 32 := 1#32
  let v76 : BitVec 32 := Scalar.muli c29_i32 c1_i32_96
  let v77 : BitVec 32 := Scalar.addi c0_i32_97 v76
  v77.toNat
def k0_dev31 : Nat :=
  let c0_i32_100 : BitVec 32 := 0#32
  let c30_i32 : BitVec 32 := 30#32
  let c1_i32_99 : BitVec 32 := 1#32
  let v78 : BitVec 32 := Scalar.muli c30_i32 c1_i32_99
  let v79 : BitVec 32 := Scalar.addi c0_i32_100 v78
  v79.toNat
def k0_dev32 : Nat :=
  let c0_i32_103 : BitVec 32 := 0#32
  let c31_i32 : BitVec 32 := 31#32
  let c1_i32_102 : BitVec 32 := 1#32
  let v80 : BitVec 32 := Scalar.muli c31_i32 c1_i32_102
  let v81 : BitVec 32 := Scalar.addi c0_i32_103 v80
  v81.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_123 : BitVec 32 := 0#32
  let c0_i32_124 : BitVec 32 := 0#32
  ![v2.toNat, 0, 0]
def k0_dev33 : Nat :=
  let c0_i32_122 : BitVec 32 := 0#32
  let c0_i32_120 : BitVec 32 := 0#32
  let c1_i32_121 : BitVec 32 := 1#32
  let v104 : BitVec 32 := Scalar.muli c0_i32_120 c1_i32_121
  let v105 : BitVec 32 := Scalar.addi c0_i32_122 v104
  v105.toNat
def k0_dev34 : Nat :=
  let c0_i32_129 : BitVec 32 := 0#32
  let c1_i32_127 : BitVec 32 := 1#32
  let c1_i32_128 : BitVec 32 := 1#32
  let v109 : BitVec 32 := Scalar.muli c1_i32_127 c1_i32_128
  let v110 : BitVec 32 := Scalar.addi c0_i32_129 v109
  v110.toNat
def k0_dev35 : Nat :=
  let c0_i32_136 : BitVec 32 := 0#32
  let c2_i32_134 : BitVec 32 := 2#32
  let c1_i32_135 : BitVec 32 := 1#32
  let v114 : BitVec 32 := Scalar.muli c2_i32_134 c1_i32_135
  let v115 : BitVec 32 := Scalar.addi c0_i32_136 v114
  v115.toNat
def k0_dev36 : Nat :=
  let c0_i32_143 : BitVec 32 := 0#32
  let c3_i32_141 : BitVec 32 := 3#32
  let c1_i32_142 : BitVec 32 := 1#32
  let v119 : BitVec 32 := Scalar.muli c3_i32_141 c1_i32_142
  let v120 : BitVec 32 := Scalar.addi c0_i32_143 v119
  v120.toNat
def k0_dev37 : Nat :=
  let c0_i32_149 : BitVec 32 := 0#32
  let c4_i32_147 : BitVec 32 := 4#32
  let c1_i32_148 : BitVec 32 := 1#32
  let v124 : BitVec 32 := Scalar.muli c4_i32_147 c1_i32_148
  let v125 : BitVec 32 := Scalar.addi c0_i32_149 v124
  v125.toNat
def k0_dev38 : Nat :=
  let c0_i32_155 : BitVec 32 := 0#32
  let c5_i32_153 : BitVec 32 := 5#32
  let c1_i32_154 : BitVec 32 := 1#32
  let v129 : BitVec 32 := Scalar.muli c5_i32_153 c1_i32_154
  let v130 : BitVec 32 := Scalar.addi c0_i32_155 v129
  v130.toNat
def k0_dev39 : Nat :=
  let c0_i32_161 : BitVec 32 := 0#32
  let c6_i32_159 : BitVec 32 := 6#32
  let c1_i32_160 : BitVec 32 := 1#32
  let v134 : BitVec 32 := Scalar.muli c6_i32_159 c1_i32_160
  let v135 : BitVec 32 := Scalar.addi c0_i32_161 v134
  v135.toNat
def k0_dev40 : Nat :=
  let c0_i32_167 : BitVec 32 := 0#32
  let c7_i32_165 : BitVec 32 := 7#32
  let c1_i32_166 : BitVec 32 := 1#32
  let v139 : BitVec 32 := Scalar.muli c7_i32_165 c1_i32_166
  let v140 : BitVec 32 := Scalar.addi c0_i32_167 v139
  v140.toNat
def k0_dev41 : Nat :=
  let c0_i32_173 : BitVec 32 := 0#32
  let c8_i32_171 : BitVec 32 := 8#32
  let c1_i32_172 : BitVec 32 := 1#32
  let v144 : BitVec 32 := Scalar.muli c8_i32_171 c1_i32_172
  let v145 : BitVec 32 := Scalar.addi c0_i32_173 v144
  v145.toNat
def k0_dev42 : Nat :=
  let c0_i32_179 : BitVec 32 := 0#32
  let c9_i32_177 : BitVec 32 := 9#32
  let c1_i32_178 : BitVec 32 := 1#32
  let v149 : BitVec 32 := Scalar.muli c9_i32_177 c1_i32_178
  let v150 : BitVec 32 := Scalar.addi c0_i32_179 v149
  v150.toNat
def k0_dev43 : Nat :=
  let c0_i32_185 : BitVec 32 := 0#32
  let c10_i32_183 : BitVec 32 := 10#32
  let c1_i32_184 : BitVec 32 := 1#32
  let v154 : BitVec 32 := Scalar.muli c10_i32_183 c1_i32_184
  let v155 : BitVec 32 := Scalar.addi c0_i32_185 v154
  v155.toNat
def k0_dev44 : Nat :=
  let c0_i32_191 : BitVec 32 := 0#32
  let c11_i32_189 : BitVec 32 := 11#32
  let c1_i32_190 : BitVec 32 := 1#32
  let v159 : BitVec 32 := Scalar.muli c11_i32_189 c1_i32_190
  let v160 : BitVec 32 := Scalar.addi c0_i32_191 v159
  v160.toNat
def k0_dev45 : Nat :=
  let c0_i32_197 : BitVec 32 := 0#32
  let c12_i32_195 : BitVec 32 := 12#32
  let c1_i32_196 : BitVec 32 := 1#32
  let v164 : BitVec 32 := Scalar.muli c12_i32_195 c1_i32_196
  let v165 : BitVec 32 := Scalar.addi c0_i32_197 v164
  v165.toNat
def k0_dev46 : Nat :=
  let c0_i32_203 : BitVec 32 := 0#32
  let c13_i32_201 : BitVec 32 := 13#32
  let c1_i32_202 : BitVec 32 := 1#32
  let v169 : BitVec 32 := Scalar.muli c13_i32_201 c1_i32_202
  let v170 : BitVec 32 := Scalar.addi c0_i32_203 v169
  v170.toNat
def k0_dev47 : Nat :=
  let c0_i32_209 : BitVec 32 := 0#32
  let c14_i32_207 : BitVec 32 := 14#32
  let c1_i32_208 : BitVec 32 := 1#32
  let v174 : BitVec 32 := Scalar.muli c14_i32_207 c1_i32_208
  let v175 : BitVec 32 := Scalar.addi c0_i32_209 v174
  v175.toNat
def k0_dev48 : Nat :=
  let c0_i32_215 : BitVec 32 := 0#32
  let c15_i32_213 : BitVec 32 := 15#32
  let c1_i32_214 : BitVec 32 := 1#32
  let v179 : BitVec 32 := Scalar.muli c15_i32_213 c1_i32_214
  let v180 : BitVec 32 := Scalar.addi c0_i32_215 v179
  v180.toNat
def k0_dev49 : Nat :=
  let c0_i32_221 : BitVec 32 := 0#32
  let c16_i32_219 : BitVec 32 := 16#32
  let c1_i32_220 : BitVec 32 := 1#32
  let v184 : BitVec 32 := Scalar.muli c16_i32_219 c1_i32_220
  let v185 : BitVec 32 := Scalar.addi c0_i32_221 v184
  v185.toNat
def k0_dev50 : Nat :=
  let c0_i32_227 : BitVec 32 := 0#32
  let c17_i32_225 : BitVec 32 := 17#32
  let c1_i32_226 : BitVec 32 := 1#32
  let v189 : BitVec 32 := Scalar.muli c17_i32_225 c1_i32_226
  let v190 : BitVec 32 := Scalar.addi c0_i32_227 v189
  v190.toNat
def k0_dev51 : Nat :=
  let c0_i32_233 : BitVec 32 := 0#32
  let c18_i32_231 : BitVec 32 := 18#32
  let c1_i32_232 : BitVec 32 := 1#32
  let v194 : BitVec 32 := Scalar.muli c18_i32_231 c1_i32_232
  let v195 : BitVec 32 := Scalar.addi c0_i32_233 v194
  v195.toNat
def k0_dev52 : Nat :=
  let c0_i32_239 : BitVec 32 := 0#32
  let c19_i32_237 : BitVec 32 := 19#32
  let c1_i32_238 : BitVec 32 := 1#32
  let v199 : BitVec 32 := Scalar.muli c19_i32_237 c1_i32_238
  let v200 : BitVec 32 := Scalar.addi c0_i32_239 v199
  v200.toNat
def k0_dev53 : Nat :=
  let c0_i32_245 : BitVec 32 := 0#32
  let c20_i32_243 : BitVec 32 := 20#32
  let c1_i32_244 : BitVec 32 := 1#32
  let v204 : BitVec 32 := Scalar.muli c20_i32_243 c1_i32_244
  let v205 : BitVec 32 := Scalar.addi c0_i32_245 v204
  v205.toNat
def k0_dev54 : Nat :=
  let c0_i32_251 : BitVec 32 := 0#32
  let c21_i32_249 : BitVec 32 := 21#32
  let c1_i32_250 : BitVec 32 := 1#32
  let v209 : BitVec 32 := Scalar.muli c21_i32_249 c1_i32_250
  let v210 : BitVec 32 := Scalar.addi c0_i32_251 v209
  v210.toNat
def k0_dev55 : Nat :=
  let c0_i32_257 : BitVec 32 := 0#32
  let c22_i32_255 : BitVec 32 := 22#32
  let c1_i32_256 : BitVec 32 := 1#32
  let v214 : BitVec 32 := Scalar.muli c22_i32_255 c1_i32_256
  let v215 : BitVec 32 := Scalar.addi c0_i32_257 v214
  v215.toNat
def k0_dev56 : Nat :=
  let c0_i32_263 : BitVec 32 := 0#32
  let c23_i32_261 : BitVec 32 := 23#32
  let c1_i32_262 : BitVec 32 := 1#32
  let v219 : BitVec 32 := Scalar.muli c23_i32_261 c1_i32_262
  let v220 : BitVec 32 := Scalar.addi c0_i32_263 v219
  v220.toNat
def k0_dev57 : Nat :=
  let c0_i32_269 : BitVec 32 := 0#32
  let c24_i32_267 : BitVec 32 := 24#32
  let c1_i32_268 : BitVec 32 := 1#32
  let v224 : BitVec 32 := Scalar.muli c24_i32_267 c1_i32_268
  let v225 : BitVec 32 := Scalar.addi c0_i32_269 v224
  v225.toNat
def k0_dev58 : Nat :=
  let c0_i32_275 : BitVec 32 := 0#32
  let c25_i32_273 : BitVec 32 := 25#32
  let c1_i32_274 : BitVec 32 := 1#32
  let v229 : BitVec 32 := Scalar.muli c25_i32_273 c1_i32_274
  let v230 : BitVec 32 := Scalar.addi c0_i32_275 v229
  v230.toNat
def k0_dev59 : Nat :=
  let c0_i32_281 : BitVec 32 := 0#32
  let c26_i32_279 : BitVec 32 := 26#32
  let c1_i32_280 : BitVec 32 := 1#32
  let v234 : BitVec 32 := Scalar.muli c26_i32_279 c1_i32_280
  let v235 : BitVec 32 := Scalar.addi c0_i32_281 v234
  v235.toNat
def k0_dev60 : Nat :=
  let c0_i32_287 : BitVec 32 := 0#32
  let c27_i32_285 : BitVec 32 := 27#32
  let c1_i32_286 : BitVec 32 := 1#32
  let v239 : BitVec 32 := Scalar.muli c27_i32_285 c1_i32_286
  let v240 : BitVec 32 := Scalar.addi c0_i32_287 v239
  v240.toNat
def k0_dev61 : Nat :=
  let c0_i32_293 : BitVec 32 := 0#32
  let c28_i32_291 : BitVec 32 := 28#32
  let c1_i32_292 : BitVec 32 := 1#32
  let v244 : BitVec 32 := Scalar.muli c28_i32_291 c1_i32_292
  let v245 : BitVec 32 := Scalar.addi c0_i32_293 v244
  v245.toNat
def k0_dev62 : Nat :=
  let c0_i32_299 : BitVec 32 := 0#32
  let c29_i32_297 : BitVec 32 := 29#32
  let c1_i32_298 : BitVec 32 := 1#32
  let v249 : BitVec 32 := Scalar.muli c29_i32_297 c1_i32_298
  let v250 : BitVec 32 := Scalar.addi c0_i32_299 v249
  v250.toNat
def k0_dev63 : Nat :=
  let c0_i32_305 : BitVec 32 := 0#32
  let c30_i32_303 : BitVec 32 := 30#32
  let c1_i32_304 : BitVec 32 := 1#32
  let v254 : BitVec 32 := Scalar.muli c30_i32_303 c1_i32_304
  let v255 : BitVec 32 := Scalar.addi c0_i32_305 v254
  v255.toNat
def k0_dev64 : Nat :=
  let c0_i32_311 : BitVec 32 := 0#32
  let c31_i32_309 : BitVec 32 := 31#32
  let c1_i32_310 : BitVec 32 := 1#32
  let v259 : BitVec 32 := Scalar.muli c31_i32_309 c1_i32_310
  let v260 : BitVec 32 := Scalar.addi c0_i32_311 v259
  v260.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let c0_i32_328 : BitVec 32 := 0#32
  ![v2.toNat, 0, 0]
def k0_dev65 : Nat :=
  let c0_i32_326 : BitVec 32 := 0#32
  let c0_i32_324 : BitVec 32 := 0#32
  let c1_i32_325 : BitVec 32 := 1#32
  let v274 : BitVec 32 := Scalar.muli c0_i32_324 c1_i32_325
  let v275 : BitVec 32 := Scalar.addi c0_i32_326 v274
  v275.toNat
def k0_dev66 : Nat :=
  let c0_i32_333 : BitVec 32 := 0#32
  let c1_i32_331 : BitVec 32 := 1#32
  let c1_i32_332 : BitVec 32 := 1#32
  let v279 : BitVec 32 := Scalar.muli c1_i32_331 c1_i32_332
  let v280 : BitVec 32 := Scalar.addi c0_i32_333 v279
  v280.toNat
def k0_dev67 : Nat :=
  let c0_i32_340 : BitVec 32 := 0#32
  let c2_i32_338 : BitVec 32 := 2#32
  let c1_i32_339 : BitVec 32 := 1#32
  let v284 : BitVec 32 := Scalar.muli c2_i32_338 c1_i32_339
  let v285 : BitVec 32 := Scalar.addi c0_i32_340 v284
  v285.toNat
def k0_dev68 : Nat :=
  let c0_i32_347 : BitVec 32 := 0#32
  let c3_i32_345 : BitVec 32 := 3#32
  let c1_i32_346 : BitVec 32 := 1#32
  let v289 : BitVec 32 := Scalar.muli c3_i32_345 c1_i32_346
  let v290 : BitVec 32 := Scalar.addi c0_i32_347 v289
  v290.toNat
def k0_dev69 : Nat :=
  let c0_i32_354 : BitVec 32 := 0#32
  let c4_i32_352 : BitVec 32 := 4#32
  let c1_i32_353 : BitVec 32 := 1#32
  let v294 : BitVec 32 := Scalar.muli c4_i32_352 c1_i32_353
  let v295 : BitVec 32 := Scalar.addi c0_i32_354 v294
  v295.toNat
def k0_dev70 : Nat :=
  let c0_i32_361 : BitVec 32 := 0#32
  let c5_i32_359 : BitVec 32 := 5#32
  let c1_i32_360 : BitVec 32 := 1#32
  let v299 : BitVec 32 := Scalar.muli c5_i32_359 c1_i32_360
  let v300 : BitVec 32 := Scalar.addi c0_i32_361 v299
  v300.toNat
def k0_dev71 : Nat :=
  let c0_i32_368 : BitVec 32 := 0#32
  let c6_i32_366 : BitVec 32 := 6#32
  let c1_i32_367 : BitVec 32 := 1#32
  let v304 : BitVec 32 := Scalar.muli c6_i32_366 c1_i32_367
  let v305 : BitVec 32 := Scalar.addi c0_i32_368 v304
  v305.toNat
def k0_dev72 : Nat :=
  let c0_i32_375 : BitVec 32 := 0#32
  let c7_i32_373 : BitVec 32 := 7#32
  let c1_i32_374 : BitVec 32 := 1#32
  let v309 : BitVec 32 := Scalar.muli c7_i32_373 c1_i32_374
  let v310 : BitVec 32 := Scalar.addi c0_i32_375 v309
  v310.toNat
def k0_dev73 : Nat :=
  let c0_i32_382 : BitVec 32 := 0#32
  let c8_i32_380 : BitVec 32 := 8#32
  let c1_i32_381 : BitVec 32 := 1#32
  let v314 : BitVec 32 := Scalar.muli c8_i32_380 c1_i32_381
  let v315 : BitVec 32 := Scalar.addi c0_i32_382 v314
  v315.toNat
def k0_dev74 : Nat :=
  let c0_i32_389 : BitVec 32 := 0#32
  let c9_i32_387 : BitVec 32 := 9#32
  let c1_i32_388 : BitVec 32 := 1#32
  let v319 : BitVec 32 := Scalar.muli c9_i32_387 c1_i32_388
  let v320 : BitVec 32 := Scalar.addi c0_i32_389 v319
  v320.toNat
def k0_dev75 : Nat :=
  let c0_i32_395 : BitVec 32 := 0#32
  let c10_i32_393 : BitVec 32 := 10#32
  let c1_i32_394 : BitVec 32 := 1#32
  let v324 : BitVec 32 := Scalar.muli c10_i32_393 c1_i32_394
  let v325 : BitVec 32 := Scalar.addi c0_i32_395 v324
  v325.toNat
def k0_dev76 : Nat :=
  let c0_i32_401 : BitVec 32 := 0#32
  let c11_i32_399 : BitVec 32 := 11#32
  let c1_i32_400 : BitVec 32 := 1#32
  let v329 : BitVec 32 := Scalar.muli c11_i32_399 c1_i32_400
  let v330 : BitVec 32 := Scalar.addi c0_i32_401 v329
  v330.toNat
def k0_dev77 : Nat :=
  let c0_i32_407 : BitVec 32 := 0#32
  let c12_i32_405 : BitVec 32 := 12#32
  let c1_i32_406 : BitVec 32 := 1#32
  let v334 : BitVec 32 := Scalar.muli c12_i32_405 c1_i32_406
  let v335 : BitVec 32 := Scalar.addi c0_i32_407 v334
  v335.toNat
def k0_dev78 : Nat :=
  let c0_i32_414 : BitVec 32 := 0#32
  let c13_i32_412 : BitVec 32 := 13#32
  let c1_i32_413 : BitVec 32 := 1#32
  let v339 : BitVec 32 := Scalar.muli c13_i32_412 c1_i32_413
  let v340 : BitVec 32 := Scalar.addi c0_i32_414 v339
  v340.toNat
def k0_dev79 : Nat :=
  let c0_i32_420 : BitVec 32 := 0#32
  let c14_i32_418 : BitVec 32 := 14#32
  let c1_i32_419 : BitVec 32 := 1#32
  let v344 : BitVec 32 := Scalar.muli c14_i32_418 c1_i32_419
  let v345 : BitVec 32 := Scalar.addi c0_i32_420 v344
  v345.toNat
def k0_dev80 : Nat :=
  let c0_i32_426 : BitVec 32 := 0#32
  let c15_i32_424 : BitVec 32 := 15#32
  let c1_i32_425 : BitVec 32 := 1#32
  let v349 : BitVec 32 := Scalar.muli c15_i32_424 c1_i32_425
  let v350 : BitVec 32 := Scalar.addi c0_i32_426 v349
  v350.toNat
def k0_dev81 : Nat :=
  let c0_i32_432 : BitVec 32 := 0#32
  let c16_i32_430 : BitVec 32 := 16#32
  let c1_i32_431 : BitVec 32 := 1#32
  let v354 : BitVec 32 := Scalar.muli c16_i32_430 c1_i32_431
  let v355 : BitVec 32 := Scalar.addi c0_i32_432 v354
  v355.toNat
def k0_dev82 : Nat :=
  let c0_i32_439 : BitVec 32 := 0#32
  let c17_i32_437 : BitVec 32 := 17#32
  let c1_i32_438 : BitVec 32 := 1#32
  let v359 : BitVec 32 := Scalar.muli c17_i32_437 c1_i32_438
  let v360 : BitVec 32 := Scalar.addi c0_i32_439 v359
  v360.toNat
def k0_dev83 : Nat :=
  let c0_i32_445 : BitVec 32 := 0#32
  let c18_i32_443 : BitVec 32 := 18#32
  let c1_i32_444 : BitVec 32 := 1#32
  let v364 : BitVec 32 := Scalar.muli c18_i32_443 c1_i32_444
  let v365 : BitVec 32 := Scalar.addi c0_i32_445 v364
  v365.toNat
def k0_dev84 : Nat :=
  let c0_i32_451 : BitVec 32 := 0#32
  let c19_i32_449 : BitVec 32 := 19#32
  let c1_i32_450 : BitVec 32 := 1#32
  let v369 : BitVec 32 := Scalar.muli c19_i32_449 c1_i32_450
  let v370 : BitVec 32 := Scalar.addi c0_i32_451 v369
  v370.toNat
def k0_dev85 : Nat :=
  let c0_i32_457 : BitVec 32 := 0#32
  let c20_i32_455 : BitVec 32 := 20#32
  let c1_i32_456 : BitVec 32 := 1#32
  let v374 : BitVec 32 := Scalar.muli c20_i32_455 c1_i32_456
  let v375 : BitVec 32 := Scalar.addi c0_i32_457 v374
  v375.toNat
def k0_dev86 : Nat :=
  let c0_i32_464 : BitVec 32 := 0#32
  let c21_i32_462 : BitVec 32 := 21#32
  let c1_i32_463 : BitVec 32 := 1#32
  let v379 : BitVec 32 := Scalar.muli c21_i32_462 c1_i32_463
  let v380 : BitVec 32 := Scalar.addi c0_i32_464 v379
  v380.toNat
def k0_dev87 : Nat :=
  let c0_i32_470 : BitVec 32 := 0#32
  let c22_i32_468 : BitVec 32 := 22#32
  let c1_i32_469 : BitVec 32 := 1#32
  let v384 : BitVec 32 := Scalar.muli c22_i32_468 c1_i32_469
  let v385 : BitVec 32 := Scalar.addi c0_i32_470 v384
  v385.toNat
def k0_dev88 : Nat :=
  let c0_i32_476 : BitVec 32 := 0#32
  let c23_i32_474 : BitVec 32 := 23#32
  let c1_i32_475 : BitVec 32 := 1#32
  let v389 : BitVec 32 := Scalar.muli c23_i32_474 c1_i32_475
  let v390 : BitVec 32 := Scalar.addi c0_i32_476 v389
  v390.toNat
def k0_dev89 : Nat :=
  let c0_i32_482 : BitVec 32 := 0#32
  let c24_i32_480 : BitVec 32 := 24#32
  let c1_i32_481 : BitVec 32 := 1#32
  let v394 : BitVec 32 := Scalar.muli c24_i32_480 c1_i32_481
  let v395 : BitVec 32 := Scalar.addi c0_i32_482 v394
  v395.toNat
def k0_dev90 : Nat :=
  let c0_i32_489 : BitVec 32 := 0#32
  let c25_i32_487 : BitVec 32 := 25#32
  let c1_i32_488 : BitVec 32 := 1#32
  let v399 : BitVec 32 := Scalar.muli c25_i32_487 c1_i32_488
  let v400 : BitVec 32 := Scalar.addi c0_i32_489 v399
  v400.toNat
def k0_dev91 : Nat :=
  let c0_i32_495 : BitVec 32 := 0#32
  let c26_i32_493 : BitVec 32 := 26#32
  let c1_i32_494 : BitVec 32 := 1#32
  let v404 : BitVec 32 := Scalar.muli c26_i32_493 c1_i32_494
  let v405 : BitVec 32 := Scalar.addi c0_i32_495 v404
  v405.toNat
def k0_dev92 : Nat :=
  let c0_i32_501 : BitVec 32 := 0#32
  let c27_i32_499 : BitVec 32 := 27#32
  let c1_i32_500 : BitVec 32 := 1#32
  let v409 : BitVec 32 := Scalar.muli c27_i32_499 c1_i32_500
  let v410 : BitVec 32 := Scalar.addi c0_i32_501 v409
  v410.toNat
def k0_dev93 : Nat :=
  let c0_i32_507 : BitVec 32 := 0#32
  let c28_i32_505 : BitVec 32 := 28#32
  let c1_i32_506 : BitVec 32 := 1#32
  let v414 : BitVec 32 := Scalar.muli c28_i32_505 c1_i32_506
  let v415 : BitVec 32 := Scalar.addi c0_i32_507 v414
  v415.toNat
def k0_dev94 : Nat :=
  let c0_i32_514 : BitVec 32 := 0#32
  let c29_i32_512 : BitVec 32 := 29#32
  let c1_i32_513 : BitVec 32 := 1#32
  let v419 : BitVec 32 := Scalar.muli c29_i32_512 c1_i32_513
  let v420 : BitVec 32 := Scalar.addi c0_i32_514 v419
  v420.toNat
def k0_dev95 : Nat :=
  let c0_i32_520 : BitVec 32 := 0#32
  let c30_i32_518 : BitVec 32 := 30#32
  let c1_i32_519 : BitVec 32 := 1#32
  let v424 : BitVec 32 := Scalar.muli c30_i32_518 c1_i32_519
  let v425 : BitVec 32 := Scalar.addi c0_i32_520 v424
  v425.toNat
def k0_dev96 : Nat :=
  let c0_i32_526 : BitVec 32 := 0#32
  let c31_i32_524 : BitVec 32 := 31#32
  let c1_i32_525 : BitVec 32 := 1#32
  let v429 : BitVec 32 := Scalar.muli c31_i32_524 c1_i32_525
  let v430 : BitVec 32 := Scalar.addi c0_i32_526 v429
  v430.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_792 : BitVec 32 := 16#32
  let v601 : BitVec 32 := Scalar.muli v2 c16_i32_792
  let c0_i32_796 : BitVec 32 := 0#32
  ![v601.toNat, 0]
def k0_dev97 : Nat :=
  let c0_i32_795 : BitVec 32 := 0#32
  let c0_i32_793 : BitVec 32 := 0#32
  let c1_i32_794 : BitVec 32 := 1#32
  let v602 : BitVec 32 := Scalar.muli c0_i32_793 c1_i32_794
  let v603 : BitVec 32 := Scalar.addi c0_i32_795 v602
  v603.toNat
def k0_dev98 : Nat :=
  let c0_i32_800 : BitVec 32 := 0#32
  let c1_i32_798 : BitVec 32 := 1#32
  let c1_i32_799 : BitVec 32 := 1#32
  let v606 : BitVec 32 := Scalar.muli c1_i32_798 c1_i32_799
  let v607 : BitVec 32 := Scalar.addi c0_i32_800 v606
  v607.toNat
def k0_dev99 : Nat :=
  let c0_i32_805 : BitVec 32 := 0#32
  let c2_i32_803 : BitVec 32 := 2#32
  let c1_i32_804 : BitVec 32 := 1#32
  let v610 : BitVec 32 := Scalar.muli c2_i32_803 c1_i32_804
  let v611 : BitVec 32 := Scalar.addi c0_i32_805 v610
  v611.toNat
def k0_dev100 : Nat :=
  let c0_i32_810 : BitVec 32 := 0#32
  let c3_i32_808 : BitVec 32 := 3#32
  let c1_i32_809 : BitVec 32 := 1#32
  let v614 : BitVec 32 := Scalar.muli c3_i32_808 c1_i32_809
  let v615 : BitVec 32 := Scalar.addi c0_i32_810 v614
  v615.toNat
def k0_dev101 : Nat :=
  let c0_i32_815 : BitVec 32 := 0#32
  let c4_i32_813 : BitVec 32 := 4#32
  let c1_i32_814 : BitVec 32 := 1#32
  let v618 : BitVec 32 := Scalar.muli c4_i32_813 c1_i32_814
  let v619 : BitVec 32 := Scalar.addi c0_i32_815 v618
  v619.toNat
def k0_dev102 : Nat :=
  let c0_i32_820 : BitVec 32 := 0#32
  let c5_i32_818 : BitVec 32 := 5#32
  let c1_i32_819 : BitVec 32 := 1#32
  let v622 : BitVec 32 := Scalar.muli c5_i32_818 c1_i32_819
  let v623 : BitVec 32 := Scalar.addi c0_i32_820 v622
  v623.toNat
def k0_dev103 : Nat :=
  let c0_i32_825 : BitVec 32 := 0#32
  let c6_i32_823 : BitVec 32 := 6#32
  let c1_i32_824 : BitVec 32 := 1#32
  let v626 : BitVec 32 := Scalar.muli c6_i32_823 c1_i32_824
  let v627 : BitVec 32 := Scalar.addi c0_i32_825 v626
  v627.toNat
def k0_dev104 : Nat :=
  let c0_i32_830 : BitVec 32 := 0#32
  let c7_i32_828 : BitVec 32 := 7#32
  let c1_i32_829 : BitVec 32 := 1#32
  let v630 : BitVec 32 := Scalar.muli c7_i32_828 c1_i32_829
  let v631 : BitVec 32 := Scalar.addi c0_i32_830 v630
  v631.toNat
def k0_dev105 : Nat :=
  let c0_i32_835 : BitVec 32 := 0#32
  let c8_i32_833 : BitVec 32 := 8#32
  let c1_i32_834 : BitVec 32 := 1#32
  let v634 : BitVec 32 := Scalar.muli c8_i32_833 c1_i32_834
  let v635 : BitVec 32 := Scalar.addi c0_i32_835 v634
  v635.toNat
def k0_dev106 : Nat :=
  let c0_i32_840 : BitVec 32 := 0#32
  let c9_i32_838 : BitVec 32 := 9#32
  let c1_i32_839 : BitVec 32 := 1#32
  let v638 : BitVec 32 := Scalar.muli c9_i32_838 c1_i32_839
  let v639 : BitVec 32 := Scalar.addi c0_i32_840 v638
  v639.toNat
def k0_dev107 : Nat :=
  let c0_i32_845 : BitVec 32 := 0#32
  let c10_i32_843 : BitVec 32 := 10#32
  let c1_i32_844 : BitVec 32 := 1#32
  let v642 : BitVec 32 := Scalar.muli c10_i32_843 c1_i32_844
  let v643 : BitVec 32 := Scalar.addi c0_i32_845 v642
  v643.toNat
def k0_dev108 : Nat :=
  let c0_i32_850 : BitVec 32 := 0#32
  let c11_i32_848 : BitVec 32 := 11#32
  let c1_i32_849 : BitVec 32 := 1#32
  let v646 : BitVec 32 := Scalar.muli c11_i32_848 c1_i32_849
  let v647 : BitVec 32 := Scalar.addi c0_i32_850 v646
  v647.toNat
def k0_dev109 : Nat :=
  let c0_i32_855 : BitVec 32 := 0#32
  let c12_i32_853 : BitVec 32 := 12#32
  let c1_i32_854 : BitVec 32 := 1#32
  let v650 : BitVec 32 := Scalar.muli c12_i32_853 c1_i32_854
  let v651 : BitVec 32 := Scalar.addi c0_i32_855 v650
  v651.toNat
def k0_dev110 : Nat :=
  let c0_i32_860 : BitVec 32 := 0#32
  let c13_i32_858 : BitVec 32 := 13#32
  let c1_i32_859 : BitVec 32 := 1#32
  let v654 : BitVec 32 := Scalar.muli c13_i32_858 c1_i32_859
  let v655 : BitVec 32 := Scalar.addi c0_i32_860 v654
  v655.toNat
def k0_dev111 : Nat :=
  let c0_i32_865 : BitVec 32 := 0#32
  let c14_i32_863 : BitVec 32 := 14#32
  let c1_i32_864 : BitVec 32 := 1#32
  let v658 : BitVec 32 := Scalar.muli c14_i32_863 c1_i32_864
  let v659 : BitVec 32 := Scalar.addi c0_i32_865 v658
  v659.toNat
def k0_dev112 : Nat :=
  let c0_i32_870 : BitVec 32 := 0#32
  let c15_i32_868 : BitVec 32 := 15#32
  let c1_i32_869 : BitVec 32 := 1#32
  let v662 : BitVec 32 := Scalar.muli c15_i32_868 c1_i32_869
  let v663 : BitVec 32 := Scalar.addi c0_i32_870 v662
  v663.toNat
def k0_dev113 : Nat :=
  let c0_i32_875 : BitVec 32 := 0#32
  let c16_i32_873 : BitVec 32 := 16#32
  let c1_i32_874 : BitVec 32 := 1#32
  let v666 : BitVec 32 := Scalar.muli c16_i32_873 c1_i32_874
  let v667 : BitVec 32 := Scalar.addi c0_i32_875 v666
  v667.toNat
def k0_dev114 : Nat :=
  let c0_i32_880 : BitVec 32 := 0#32
  let c17_i32_878 : BitVec 32 := 17#32
  let c1_i32_879 : BitVec 32 := 1#32
  let v670 : BitVec 32 := Scalar.muli c17_i32_878 c1_i32_879
  let v671 : BitVec 32 := Scalar.addi c0_i32_880 v670
  v671.toNat
def k0_dev115 : Nat :=
  let c0_i32_885 : BitVec 32 := 0#32
  let c18_i32_883 : BitVec 32 := 18#32
  let c1_i32_884 : BitVec 32 := 1#32
  let v674 : BitVec 32 := Scalar.muli c18_i32_883 c1_i32_884
  let v675 : BitVec 32 := Scalar.addi c0_i32_885 v674
  v675.toNat
def k0_dev116 : Nat :=
  let c0_i32_890 : BitVec 32 := 0#32
  let c19_i32_888 : BitVec 32 := 19#32
  let c1_i32_889 : BitVec 32 := 1#32
  let v678 : BitVec 32 := Scalar.muli c19_i32_888 c1_i32_889
  let v679 : BitVec 32 := Scalar.addi c0_i32_890 v678
  v679.toNat
def k0_dev117 : Nat :=
  let c0_i32_895 : BitVec 32 := 0#32
  let c20_i32_893 : BitVec 32 := 20#32
  let c1_i32_894 : BitVec 32 := 1#32
  let v682 : BitVec 32 := Scalar.muli c20_i32_893 c1_i32_894
  let v683 : BitVec 32 := Scalar.addi c0_i32_895 v682
  v683.toNat
def k0_dev118 : Nat :=
  let c0_i32_900 : BitVec 32 := 0#32
  let c21_i32_898 : BitVec 32 := 21#32
  let c1_i32_899 : BitVec 32 := 1#32
  let v686 : BitVec 32 := Scalar.muli c21_i32_898 c1_i32_899
  let v687 : BitVec 32 := Scalar.addi c0_i32_900 v686
  v687.toNat
def k0_dev119 : Nat :=
  let c0_i32_905 : BitVec 32 := 0#32
  let c22_i32_903 : BitVec 32 := 22#32
  let c1_i32_904 : BitVec 32 := 1#32
  let v690 : BitVec 32 := Scalar.muli c22_i32_903 c1_i32_904
  let v691 : BitVec 32 := Scalar.addi c0_i32_905 v690
  v691.toNat
def k0_dev120 : Nat :=
  let c0_i32_910 : BitVec 32 := 0#32
  let c23_i32_908 : BitVec 32 := 23#32
  let c1_i32_909 : BitVec 32 := 1#32
  let v694 : BitVec 32 := Scalar.muli c23_i32_908 c1_i32_909
  let v695 : BitVec 32 := Scalar.addi c0_i32_910 v694
  v695.toNat
def k0_dev121 : Nat :=
  let c0_i32_915 : BitVec 32 := 0#32
  let c24_i32_913 : BitVec 32 := 24#32
  let c1_i32_914 : BitVec 32 := 1#32
  let v698 : BitVec 32 := Scalar.muli c24_i32_913 c1_i32_914
  let v699 : BitVec 32 := Scalar.addi c0_i32_915 v698
  v699.toNat
def k0_dev122 : Nat :=
  let c0_i32_920 : BitVec 32 := 0#32
  let c25_i32_918 : BitVec 32 := 25#32
  let c1_i32_919 : BitVec 32 := 1#32
  let v702 : BitVec 32 := Scalar.muli c25_i32_918 c1_i32_919
  let v703 : BitVec 32 := Scalar.addi c0_i32_920 v702
  v703.toNat
def k0_dev123 : Nat :=
  let c0_i32_925 : BitVec 32 := 0#32
  let c26_i32_923 : BitVec 32 := 26#32
  let c1_i32_924 : BitVec 32 := 1#32
  let v706 : BitVec 32 := Scalar.muli c26_i32_923 c1_i32_924
  let v707 : BitVec 32 := Scalar.addi c0_i32_925 v706
  v707.toNat
def k0_dev124 : Nat :=
  let c0_i32_930 : BitVec 32 := 0#32
  let c27_i32_928 : BitVec 32 := 27#32
  let c1_i32_929 : BitVec 32 := 1#32
  let v710 : BitVec 32 := Scalar.muli c27_i32_928 c1_i32_929
  let v711 : BitVec 32 := Scalar.addi c0_i32_930 v710
  v711.toNat
def k0_dev125 : Nat :=
  let c0_i32_935 : BitVec 32 := 0#32
  let c28_i32_933 : BitVec 32 := 28#32
  let c1_i32_934 : BitVec 32 := 1#32
  let v714 : BitVec 32 := Scalar.muli c28_i32_933 c1_i32_934
  let v715 : BitVec 32 := Scalar.addi c0_i32_935 v714
  v715.toNat
def k0_dev126 : Nat :=
  let c0_i32_940 : BitVec 32 := 0#32
  let c29_i32_938 : BitVec 32 := 29#32
  let c1_i32_939 : BitVec 32 := 1#32
  let v718 : BitVec 32 := Scalar.muli c29_i32_938 c1_i32_939
  let v719 : BitVec 32 := Scalar.addi c0_i32_940 v718
  v719.toNat
def k0_dev127 : Nat :=
  let c0_i32_945 : BitVec 32 := 0#32
  let c30_i32_943 : BitVec 32 := 30#32
  let c1_i32_944 : BitVec 32 := 1#32
  let v722 : BitVec 32 := Scalar.muli c30_i32_943 c1_i32_944
  let v723 : BitVec 32 := Scalar.addi c0_i32_945 v722
  v723.toNat
def k0_dev128 : Nat :=
  let c0_i32_950 : BitVec 32 := 0#32
  let c31_i32_948 : BitVec 32 := 31#32
  let c1_i32_949 : BitVec 32 := 1#32
  let v726 : BitVec 32 := Scalar.muli c31_i32_948 c1_i32_949
  let v727 : BitVec 32 := Scalar.addi c0_i32_950 v726
  v727.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1383 : BitVec 32 := 4#32
  let v1002 : BitVec 32 := Scalar.muli v2 c4_i32_1383
  let c0_i32_1387 : BitVec 32 := 0#32
  ![v1002.toNat, 0]
def k0_dev129 : Nat :=
  let c0_i32_1386 : BitVec 32 := 0#32
  let c0_i32_1384 : BitVec 32 := 0#32
  let c1_i32_1385 : BitVec 32 := 1#32
  let v1003 : BitVec 32 := Scalar.muli c0_i32_1384 c1_i32_1385
  let v1004 : BitVec 32 := Scalar.addi c0_i32_1386 v1003
  v1004.toNat
def k0_dev130 : Nat :=
  let c0_i32_1391 : BitVec 32 := 0#32
  let c1_i32_1389 : BitVec 32 := 1#32
  let c1_i32_1390 : BitVec 32 := 1#32
  let v1007 : BitVec 32 := Scalar.muli c1_i32_1389 c1_i32_1390
  let v1008 : BitVec 32 := Scalar.addi c0_i32_1391 v1007
  v1008.toNat
def k0_dev131 : Nat :=
  let c0_i32_1396 : BitVec 32 := 0#32
  let c2_i32_1394 : BitVec 32 := 2#32
  let c1_i32_1395 : BitVec 32 := 1#32
  let v1011 : BitVec 32 := Scalar.muli c2_i32_1394 c1_i32_1395
  let v1012 : BitVec 32 := Scalar.addi c0_i32_1396 v1011
  v1012.toNat
def k0_dev132 : Nat :=
  let c0_i32_1401 : BitVec 32 := 0#32
  let c3_i32_1399 : BitVec 32 := 3#32
  let c1_i32_1400 : BitVec 32 := 1#32
  let v1015 : BitVec 32 := Scalar.muli c3_i32_1399 c1_i32_1400
  let v1016 : BitVec 32 := Scalar.addi c0_i32_1401 v1015
  v1016.toNat
def k0_dev133 : Nat :=
  let c0_i32_1406 : BitVec 32 := 0#32
  let c4_i32_1404 : BitVec 32 := 4#32
  let c1_i32_1405 : BitVec 32 := 1#32
  let v1019 : BitVec 32 := Scalar.muli c4_i32_1404 c1_i32_1405
  let v1020 : BitVec 32 := Scalar.addi c0_i32_1406 v1019
  v1020.toNat
def k0_dev134 : Nat :=
  let c0_i32_1411 : BitVec 32 := 0#32
  let c5_i32_1409 : BitVec 32 := 5#32
  let c1_i32_1410 : BitVec 32 := 1#32
  let v1023 : BitVec 32 := Scalar.muli c5_i32_1409 c1_i32_1410
  let v1024 : BitVec 32 := Scalar.addi c0_i32_1411 v1023
  v1024.toNat
def k0_dev135 : Nat :=
  let c0_i32_1416 : BitVec 32 := 0#32
  let c6_i32_1414 : BitVec 32 := 6#32
  let c1_i32_1415 : BitVec 32 := 1#32
  let v1027 : BitVec 32 := Scalar.muli c6_i32_1414 c1_i32_1415
  let v1028 : BitVec 32 := Scalar.addi c0_i32_1416 v1027
  v1028.toNat
def k0_dev136 : Nat :=
  let c0_i32_1421 : BitVec 32 := 0#32
  let c7_i32_1419 : BitVec 32 := 7#32
  let c1_i32_1420 : BitVec 32 := 1#32
  let v1031 : BitVec 32 := Scalar.muli c7_i32_1419 c1_i32_1420
  let v1032 : BitVec 32 := Scalar.addi c0_i32_1421 v1031
  v1032.toNat
def k0_dev137 : Nat :=
  let c0_i32_1426 : BitVec 32 := 0#32
  let c8_i32_1424 : BitVec 32 := 8#32
  let c1_i32_1425 : BitVec 32 := 1#32
  let v1035 : BitVec 32 := Scalar.muli c8_i32_1424 c1_i32_1425
  let v1036 : BitVec 32 := Scalar.addi c0_i32_1426 v1035
  v1036.toNat
def k0_dev138 : Nat :=
  let c0_i32_1431 : BitVec 32 := 0#32
  let c9_i32_1429 : BitVec 32 := 9#32
  let c1_i32_1430 : BitVec 32 := 1#32
  let v1039 : BitVec 32 := Scalar.muli c9_i32_1429 c1_i32_1430
  let v1040 : BitVec 32 := Scalar.addi c0_i32_1431 v1039
  v1040.toNat
def k0_dev139 : Nat :=
  let c0_i32_1436 : BitVec 32 := 0#32
  let c10_i32_1434 : BitVec 32 := 10#32
  let c1_i32_1435 : BitVec 32 := 1#32
  let v1043 : BitVec 32 := Scalar.muli c10_i32_1434 c1_i32_1435
  let v1044 : BitVec 32 := Scalar.addi c0_i32_1436 v1043
  v1044.toNat
def k0_dev140 : Nat :=
  let c0_i32_1441 : BitVec 32 := 0#32
  let c11_i32_1439 : BitVec 32 := 11#32
  let c1_i32_1440 : BitVec 32 := 1#32
  let v1047 : BitVec 32 := Scalar.muli c11_i32_1439 c1_i32_1440
  let v1048 : BitVec 32 := Scalar.addi c0_i32_1441 v1047
  v1048.toNat
def k0_dev141 : Nat :=
  let c0_i32_1446 : BitVec 32 := 0#32
  let c12_i32_1444 : BitVec 32 := 12#32
  let c1_i32_1445 : BitVec 32 := 1#32
  let v1051 : BitVec 32 := Scalar.muli c12_i32_1444 c1_i32_1445
  let v1052 : BitVec 32 := Scalar.addi c0_i32_1446 v1051
  v1052.toNat
def k0_dev142 : Nat :=
  let c0_i32_1451 : BitVec 32 := 0#32
  let c13_i32_1449 : BitVec 32 := 13#32
  let c1_i32_1450 : BitVec 32 := 1#32
  let v1055 : BitVec 32 := Scalar.muli c13_i32_1449 c1_i32_1450
  let v1056 : BitVec 32 := Scalar.addi c0_i32_1451 v1055
  v1056.toNat
def k0_dev143 : Nat :=
  let c0_i32_1456 : BitVec 32 := 0#32
  let c14_i32_1454 : BitVec 32 := 14#32
  let c1_i32_1455 : BitVec 32 := 1#32
  let v1059 : BitVec 32 := Scalar.muli c14_i32_1454 c1_i32_1455
  let v1060 : BitVec 32 := Scalar.addi c0_i32_1456 v1059
  v1060.toNat
def k0_dev144 : Nat :=
  let c0_i32_1461 : BitVec 32 := 0#32
  let c15_i32_1459 : BitVec 32 := 15#32
  let c1_i32_1460 : BitVec 32 := 1#32
  let v1063 : BitVec 32 := Scalar.muli c15_i32_1459 c1_i32_1460
  let v1064 : BitVec 32 := Scalar.addi c0_i32_1461 v1063
  v1064.toNat
def k0_dev145 : Nat :=
  let c0_i32_1466 : BitVec 32 := 0#32
  let c16_i32_1464 : BitVec 32 := 16#32
  let c1_i32_1465 : BitVec 32 := 1#32
  let v1067 : BitVec 32 := Scalar.muli c16_i32_1464 c1_i32_1465
  let v1068 : BitVec 32 := Scalar.addi c0_i32_1466 v1067
  v1068.toNat
def k0_dev146 : Nat :=
  let c0_i32_1471 : BitVec 32 := 0#32
  let c17_i32_1469 : BitVec 32 := 17#32
  let c1_i32_1470 : BitVec 32 := 1#32
  let v1071 : BitVec 32 := Scalar.muli c17_i32_1469 c1_i32_1470
  let v1072 : BitVec 32 := Scalar.addi c0_i32_1471 v1071
  v1072.toNat
def k0_dev147 : Nat :=
  let c0_i32_1476 : BitVec 32 := 0#32
  let c18_i32_1474 : BitVec 32 := 18#32
  let c1_i32_1475 : BitVec 32 := 1#32
  let v1075 : BitVec 32 := Scalar.muli c18_i32_1474 c1_i32_1475
  let v1076 : BitVec 32 := Scalar.addi c0_i32_1476 v1075
  v1076.toNat
def k0_dev148 : Nat :=
  let c0_i32_1481 : BitVec 32 := 0#32
  let c19_i32_1479 : BitVec 32 := 19#32
  let c1_i32_1480 : BitVec 32 := 1#32
  let v1079 : BitVec 32 := Scalar.muli c19_i32_1479 c1_i32_1480
  let v1080 : BitVec 32 := Scalar.addi c0_i32_1481 v1079
  v1080.toNat
def k0_dev149 : Nat :=
  let c0_i32_1486 : BitVec 32 := 0#32
  let c20_i32_1484 : BitVec 32 := 20#32
  let c1_i32_1485 : BitVec 32 := 1#32
  let v1083 : BitVec 32 := Scalar.muli c20_i32_1484 c1_i32_1485
  let v1084 : BitVec 32 := Scalar.addi c0_i32_1486 v1083
  v1084.toNat
def k0_dev150 : Nat :=
  let c0_i32_1491 : BitVec 32 := 0#32
  let c21_i32_1489 : BitVec 32 := 21#32
  let c1_i32_1490 : BitVec 32 := 1#32
  let v1087 : BitVec 32 := Scalar.muli c21_i32_1489 c1_i32_1490
  let v1088 : BitVec 32 := Scalar.addi c0_i32_1491 v1087
  v1088.toNat
def k0_dev151 : Nat :=
  let c0_i32_1496 : BitVec 32 := 0#32
  let c22_i32_1494 : BitVec 32 := 22#32
  let c1_i32_1495 : BitVec 32 := 1#32
  let v1091 : BitVec 32 := Scalar.muli c22_i32_1494 c1_i32_1495
  let v1092 : BitVec 32 := Scalar.addi c0_i32_1496 v1091
  v1092.toNat
def k0_dev152 : Nat :=
  let c0_i32_1501 : BitVec 32 := 0#32
  let c23_i32_1499 : BitVec 32 := 23#32
  let c1_i32_1500 : BitVec 32 := 1#32
  let v1095 : BitVec 32 := Scalar.muli c23_i32_1499 c1_i32_1500
  let v1096 : BitVec 32 := Scalar.addi c0_i32_1501 v1095
  v1096.toNat
def k0_dev153 : Nat :=
  let c0_i32_1506 : BitVec 32 := 0#32
  let c24_i32_1504 : BitVec 32 := 24#32
  let c1_i32_1505 : BitVec 32 := 1#32
  let v1099 : BitVec 32 := Scalar.muli c24_i32_1504 c1_i32_1505
  let v1100 : BitVec 32 := Scalar.addi c0_i32_1506 v1099
  v1100.toNat
def k0_dev154 : Nat :=
  let c0_i32_1511 : BitVec 32 := 0#32
  let c25_i32_1509 : BitVec 32 := 25#32
  let c1_i32_1510 : BitVec 32 := 1#32
  let v1103 : BitVec 32 := Scalar.muli c25_i32_1509 c1_i32_1510
  let v1104 : BitVec 32 := Scalar.addi c0_i32_1511 v1103
  v1104.toNat
def k0_dev155 : Nat :=
  let c0_i32_1516 : BitVec 32 := 0#32
  let c26_i32_1514 : BitVec 32 := 26#32
  let c1_i32_1515 : BitVec 32 := 1#32
  let v1107 : BitVec 32 := Scalar.muli c26_i32_1514 c1_i32_1515
  let v1108 : BitVec 32 := Scalar.addi c0_i32_1516 v1107
  v1108.toNat
def k0_dev156 : Nat :=
  let c0_i32_1521 : BitVec 32 := 0#32
  let c27_i32_1519 : BitVec 32 := 27#32
  let c1_i32_1520 : BitVec 32 := 1#32
  let v1111 : BitVec 32 := Scalar.muli c27_i32_1519 c1_i32_1520
  let v1112 : BitVec 32 := Scalar.addi c0_i32_1521 v1111
  v1112.toNat
def k0_dev157 : Nat :=
  let c0_i32_1526 : BitVec 32 := 0#32
  let c28_i32_1524 : BitVec 32 := 28#32
  let c1_i32_1525 : BitVec 32 := 1#32
  let v1115 : BitVec 32 := Scalar.muli c28_i32_1524 c1_i32_1525
  let v1116 : BitVec 32 := Scalar.addi c0_i32_1526 v1115
  v1116.toNat
def k0_dev158 : Nat :=
  let c0_i32_1531 : BitVec 32 := 0#32
  let c29_i32_1529 : BitVec 32 := 29#32
  let c1_i32_1530 : BitVec 32 := 1#32
  let v1119 : BitVec 32 := Scalar.muli c29_i32_1529 c1_i32_1530
  let v1120 : BitVec 32 := Scalar.addi c0_i32_1531 v1119
  v1120.toNat
def k0_dev159 : Nat :=
  let c0_i32_1536 : BitVec 32 := 0#32
  let c30_i32_1534 : BitVec 32 := 30#32
  let c1_i32_1535 : BitVec 32 := 1#32
  let v1123 : BitVec 32 := Scalar.muli c30_i32_1534 c1_i32_1535
  let v1124 : BitVec 32 := Scalar.addi c0_i32_1536 v1123
  v1124.toNat
def k0_dev160 : Nat :=
  let c0_i32_1541 : BitVec 32 := 0#32
  let c31_i32_1539 : BitVec 32 := 31#32
  let c1_i32_1540 : BitVec 32 := 1#32
  let v1127 : BitVec 32 := Scalar.muli c31_i32_1539 c1_i32_1540
  let v1128 : BitVec 32 := Scalar.addi c0_i32_1541 v1127
  v1128.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x4096 : Shape := ⟨2, ![128, 4096]⟩
abbrev S4096x256 : Shape := ⟨2, ![4096, 256]⟩
abbrev S256x4096 : Shape := ⟨2, ![256, 4096]⟩
abbrev S128x256 : Shape := ⟨2, ![128, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S256x4096, .f32⟩
  | .hbm, ⟨5, _⟩ => ⟨S256x4096, .f32⟩
  | .hbm, ⟨6, _⟩ => ⟨S256x4096, .f32⟩
  | .hbm, ⟨7, _⟩ => ⟨S128x256, .f32⟩
  | .hbm, ⟨8, _⟩ => ⟨S_, .f32⟩
  | .hbm, ⟨9, _⟩ => ⟨S128x256, .f32⟩
  | .hbm, ⟨10, _⟩ => ⟨S128x256, .f32⟩
  | .hbm, ⟨11, _⟩ => ⟨S128x4096, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x4096, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
# The kernel body as loops over the devices

The printed body is a straight line of several hundred operations: each of its loops over the 32 devices is unrolled. Here
the same sequence is written with the loops: `forOps` runs one effect per device, and `bodyP` is the whole body by phases.
`bodyP_eq` states that the printed body, on the buffers the launch passes it, is this one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.MlpProof

open Cert.KernelIdeal Cert.KernelIdeal.Gen
open Idealize.ShloMosaic Idealize.ShloMosaic.TcCoe
open Idealize.SL Idealize.SL.Sem

variable {F : FTy → Type} [FloatOps F]

/-- The effects of a TensorCore of this program. -/
abbrev Eff (F : FTy → Type) : Type → Type := TpuEff nD τ sig (Elt F) Λ₀ .tc
/-- Its programs. -/
abbrev PU (F : FTy → Type) : Type 1 := Prog (Eff F) PUnit

/-- One effect per element of a list, in order, then the rest. -/
def forOps {ι : Type} (l : List ι) (f : ι → Eff F PUnit) (k : PU F) : PU F :=
  match l with
  | [] => k
  | i :: l => .op (f i) fun _ => forOps l f k

/-- Four effects per element of a list, in order, then the rest. -/
def forOps4 {ι : Type} (l : List ι) (f₁ f₂ f₃ f₄ : ι → Eff F PUnit) (k : PU F) : PU F :=
  match l with
  | [] => k
  | i :: l => .op (f₁ i) fun _ => .op (f₂ i) fun _ => .op (f₃ i) fun _ => .op (f₄ i) fun _ => forOps4 l f₁ f₂ f₃ f₄ k

/-- The devices in order. -/
abbrev devs : List (Dev nD) := List.finRange 32

/-! ## The buffers' windows -/

/-- A window of 16 rows lies in 512 rows. -/
theorem inb_wfsrc : ∀ k : Dev nD, ∀ a, (![16 * k.val, 0] : Fin 2 → Nat) a + S16x256.size a ≤ S512x256.size a := by decide +kernel
/-- A window of 16 rows is made of whole words. -/
theorem words_wfsrc : ∀ k : Dev nD, (Rect.unit (s := S512x256) ![16 * k.val, 0] S16x256.size (inb_wfsrc k)).WholeWords (EltTy.packing .bf16) := by
  decide +kernel
/-- A slot of 16 rows lies in the 32 slots. -/
theorem inb_slot16 : ∀ k : Dev nD, ∀ a, (![k.val, 0, 0] : Fin 3 → Nat) a + S1x16x256.size a ≤ S32x16x256.size a := by decide +kernel
/-- A slot of 16 rows is made of whole words. -/
theorem words_slot16 : ∀ k : Dev nD, (Rect.unit (s := S32x16x256) ![k.val, 0, 0] S1x16x256.size (inb_slot16 k)).WholeWords (EltTy.packing .bf16) := by
  decide +kernel
/-- A slot of 4 rows lies in the 32 slots. -/
theorem inb_slot4 : ∀ k : Dev nD, ∀ a, (![k.val, 0, 0] : Fin 3 → Nat) a + S1x4x256.size a ≤ S32x4x256.size a := by decide +kernel
/-- A window of 4 rows lies in 128 rows. -/
theorem inb_row4 : ∀ k : Dev nD, ∀ a, (![4 * k.val, 0] : Fin 2 → Nat) a + S4x256.size a ≤ S128x256.size a := by decide +kernel

/-- Rows `16 k` to `16 k + 15` of the partial weight products. -/
abbrev wfSrcM (k : Dev nD) : Memref sig .tc .vmem S16x256 .bf16 :=
  (Memref.whole cc0_scratch8).slice (Rect.unit (s := S512x256) ![16 * k.val, 0] S16x256.size (inb_wfsrc k)) (fun _ => rfl)
/-- Slot `k` of the received weight products. -/
abbrev wfSlotM (k : Dev nD) : Memref sig .tc .vmem S16x256 .bf16 :=
  ((Memref.whole cc0_scratch9).slice (Rect.unit (s := S32x16x256) ![k.val, 0, 0] S1x16x256.size (inb_slot16 k)) (fun _ => rfl)).squeeze S16x256 squeezes_S1x16x256_S16x256
/-- Rows `16 k` to `16 k + 15` of the gathered weight products. -/
abbrev wfFullM (k : Dev nD) : Memref sig .tc .vmem S16x256 .bf16 :=
  (Memref.whole cc0_scratch11).slice (Rect.unit (s := S512x256) ![16 * k.val, 0] S16x256.size (inb_wfsrc k)) (fun _ => rfl)
/-- Rows `4 k` to `4 k + 3` of the first layer's partial sums. -/
abbrev p1M (k : Dev nD) : Memref sig .tc .vmem S4x256 .f32 :=
  (Memref.whole cc0_scratch7).slice (Rect.unit (s := S128x256) ![4 * k.val, 0] S4x256.size (inb_row4 k)) (fun _ => rfl)
/-- Slot `k` of the received partial sums. -/
abbrev l1SlotM (k : Dev nD) : Memref sig .tc .vmem S4x256 .f32 :=
  ((Memref.whole cc0_scratch12).slice (Rect.unit (s := S32x4x256) ![k.val, 0, 0] S1x4x256.size (inb_slot4 k)) (fun _ => rfl)).squeeze S4x256 squeezes_S1x4x256_S4x256
/-- Rows `4 k` to `4 k + 3` of the gathered third layer. -/
abbrev h3FullM (k : Dev nD) : Memref sig .tc .vmem S4x256 .f32 :=
  (Memref.whole cc0_scratch14).slice (Rect.unit (s := S128x256) ![4 * k.val, 0] S4x256.size (inb_row4 k)) (fun _ => rfl)

/-- The same windows as the printed body names them, at the device's own index. -/
abbrev wfSlotD (c : Dev nD) : Memref sig .tc .vmem S16x256 .bf16 :=
  ((Memref.whole cc0_scratch9).slice (Rect.unit (s := S32x16x256) (k0_off1 c) S1x16x256.size (k0_off1_inb c)) (fun _ => rfl)).squeeze S16x256 squeezes_S1x16x256_S16x256
abbrev l1SlotD (c : Dev nD) : Memref sig .tc .vmem S4x256 .f32 :=
  ((Memref.whole cc0_scratch12).slice (Rect.unit (s := S32x4x256) (k0_off2 c) S1x4x256.size (k0_off2_inb c)) (fun _ => rfl)).squeeze S4x256 squeezes_S1x4x256_S4x256
abbrev wfFullD (c : Dev nD) : Memref sig .tc .vmem S16x256 .bf16 :=
  (Memref.whole cc0_scratch11).slice (Rect.unit (s := S512x256) (k0_off3 c) S16x256.size (k0_off3_inb c)) (fun _ => rfl)
abbrev h3FullD (c : Dev nD) : Memref sig .tc .vmem S4x256 .f32 :=
  (Memref.whole cc0_scratch14).slice (Rect.unit (s := S128x256) (k0_off4 c) S4x256.size (k0_off4_inb c)) (fun _ => rfl)

abbrev wfRedM : Memref sig .tc .vmem S16x256 .bf16 := Memref.whole cc0_scratch10
abbrev h3RedM : Memref sig .tc .vmem S4x256 .f32 := Memref.whole cc0_scratch13

/-- This window is made of whole words. -/
theorem wfSrcM_words (k : Dev nD) : (wfSrcM k).view.WordExact := (Memref.isWhole_whole cc0_scratch8).wordExact_slice rfl _ (words_wfsrc k)
/-- This window is made of whole words. -/
theorem wfFullM_words (k : Dev nD) : (wfFullM k).view.WordExact := (Memref.isWhole_whole cc0_scratch11).wordExact_slice rfl _ (words_wfsrc k)
/-- This window is made of whole words. -/
theorem wfSlotM_words (k : Dev nD) : (wfSlotM k).view.WordExact := ((Memref.isWhole_whole cc0_scratch9).wordExact_slice rfl _ (words_slot16 k)).reshape _ _
/-- This window, named by the device's number, is made of whole words. -/
theorem wfSlotD_words (k : Dev nD) : (wfSlotD k).view.WordExact := ((Memref.isWhole_whole cc0_scratch9).wordExact_slice rfl _ (k0_off1_wordsbf16 k)).reshape _ _
/-- This window, named by the device's number, is made of whole words. -/
theorem wfFullD_words (k : Dev nD) : (wfFullD k).view.WordExact := (Memref.isWhole_whole cc0_scratch11).wordExact_slice rfl _ (k0_off3_wordsbf16 k)
/-- This window is made of whole words. -/
theorem p1M_words (k : Dev nD) : (p1M k).view.WordExact := View.wordExact_bits rfl
/-- This window is made of whole words. -/
theorem l1SlotM_words (k : Dev nD) : (l1SlotM k).view.WordExact := (View.wordExact_bits rfl).reshape _ _
/-- This window, named by the device's number, is made of whole words. -/
theorem l1SlotD_words (k : Dev nD) : (l1SlotD k).view.WordExact := (View.wordExact_bits rfl).reshape _ _
/-- This window is made of whole words. -/
theorem h3FullM_words (k : Dev nD) : (h3FullM k).view.WordExact := View.wordExact_bits rfl
/-- This window, named by the device's number, is made of whole words. -/
theorem h3FullD_words (k : Dev nD) : (h3FullD k).view.WordExact := View.wordExact_bits rfl
/-- This window is made of whole words. -/
theorem wfRedM_words : wfRedM.view.WordExact := (Memref.isWhole_whole cc0_scratch10).wordExact
/-- This window is made of whole words. -/
theorem h3RedM_words : h3RedM.view.WordExact := (Memref.isWhole_whole cc0_scratch13).wordExact

/-! ## The semaphores -/

/-- The runtime's barrier semaphore of collective id 0. -/
abbrev barS : Sem sig := (SemArray.scalar (sig.barrier 0 rfl) : Sems sig S_).sem
/-- The semaphore of fetch `j`. -/
abbrev inS (j : Fin 7) : DmaSem sig := ⟨1 + j.val, by have := j.isLt; show _ < 16; omega⟩
abbrev wfrsS : DmaSem sig := cc0_scratch16.sem
abbrev wfrsR : DmaSem sig := cc0_scratch17.sem
abbrev wfagS : DmaSem sig := cc0_scratch18.sem
abbrev wfagR : DmaSem sig := cc0_scratch19.sem
abbrev l1S : DmaSem sig := cc0_scratch20.sem
abbrev l1R : DmaSem sig := cc0_scratch21.sem
abbrev ag3S : DmaSem sig := cc0_scratch22.sem
abbrev ag3R : DmaSem sig := cc0_scratch23.sem

/-! ## The effects -/

/-- A fetch of a whole array into a whole buffer. -/
abbrev fetchE {s : Shape} {e : EltTy} (src : Memref sig .tc .hbm s e) (dst : Memref sig .tc .vmem s e) (hs : src.IsWhole) (hd : dst.IsWhole) (j : Fin 7) : Eff F PUnit :=
  .enqueueDma src (.here dst) (.dma (inS j)) hs.wordExact hd.wordExact ⟨Or.inl rfl, trivial⟩
/-- Its wait. -/
abbrev fetchW {s : Shape} {e : EltTy} (src : Memref sig .tc .hbm s e) (dst : Memref sig .tc .vmem s e) (hs : src.IsWhole) (hd : dst.IsWhole) (j : Fin 7) : Eff F PUnit :=
  .waitDma2 (inS j) src dst hs.wordExact hd.wordExact

/-- A load of a whole buffer of two axes or of the given rows of it. -/
abbrev signalE (d : Dev nD) : Eff F PUnit := .semSignal (d, .tc) barS ((1 : ℕ) : ℤ)

abbrev wfrsE (c d : Dev nD) : Eff F PUnit :=
  .enqueueDma (wfSrcM d) (.remote (Dev.tc d) (wfSlotD c) (.dma wfrsS)) (.dma wfrsR) (wfSrcM_words d) (wfSlotD_words c) ⟨⟨rfl, Or.inl rfl⟩, trivial⟩
abbrev l1E (c d : Dev nD) : Eff F PUnit :=
  .enqueueDma (p1M d) (.remote (Dev.tc d) (l1SlotD c) (.dma l1S)) (.dma l1R) (p1M_words d) (l1SlotD_words c) ⟨⟨rfl, Or.inl rfl⟩, trivial⟩
abbrev wfagE (c d : Dev nD) : Eff F PUnit :=
  .enqueueDma wfRedM (.remote (Dev.tc d) (wfFullD c) (.dma wfagS)) (.dma wfagR) wfRedM_words (wfFullD_words c) ⟨⟨rfl, Or.inl rfl⟩, trivial⟩
abbrev ag3E (c d : Dev nD) : Eff F PUnit :=
  .enqueueDma h3RedM (.remote (Dev.tc d) (h3FullD c) (.dma ag3S)) (.dma ag3R) h3RedM_words (h3FullD_words c) ⟨⟨rfl, Or.inl rfl⟩, trivial⟩

abbrev wfrsWR (d : Dev nD) : Eff F PUnit := .waitDma2 wfrsR (wfSrcM d) (wfSlotM d) (wfSrcM_words d) (wfSlotM_words d)
abbrev l1WR (d : Dev nD) : Eff F PUnit := .waitDma2 l1R (p1M d) (l1SlotM d) (p1M_words d) (l1SlotM_words d)
abbrev wfagWR (d : Dev nD) : Eff F PUnit := .waitDma2 wfagR wfRedM (wfFullM d) wfRedM_words (wfFullM_words d)
abbrev ag3WR (d : Dev nD) : Eff F PUnit := .waitDma2 ag3R h3RedM (h3FullM d) h3RedM_words (h3FullM_words d)

abbrev wfrsWS (c d : Dev nD) : Eff F PUnit := .waitDma2 wfrsS (wfSlotD c) (wfSrcM d) (wfSlotD_words c) (wfSrcM_words d)
abbrev wfagWS (c _d : Dev nD) : Eff F PUnit := .waitDma2 wfagS (wfFullD c) wfRedM (wfFullD_words c) wfRedM_words
abbrev l1WS (c d : Dev nD) : Eff F PUnit := .waitDma2 l1S (l1SlotD c) (p1M d) (l1SlotD_words c) (p1M_words d)
abbrev ag3WS (c _d : Dev nD) : Eff F PUnit := .waitDma2 ag3S (h3FullD c) h3RedM (h3FullD_words c) h3RedM_words

/-! ## The phases, last to first -/

/-- The waits for the outgoing copies. -/
def tail (c : Dev nD) : PU F := forOps4 devs (wfrsWS c) (wfagWS c) (l1WS c) (ag3WS c) (.ret ⟨⟩)

/-- The result: the gathered third layer times the device's columns of the last weights. -/
def phOut (c : Dev nD) : PU F :=
  .op (fetchW (Memref.whole main_arg6) (Memref.whole cc0_scratch6) (Memref.isWhole_whole _) (Memref.isWhole_whole _) 6) fun _ =>
  .op (.load (Memref.whole cc0_scratch14) (Rect.unit (s := S128x256) ![0, 0] S128x256.size inb_S128x256_S128x256_0_0).toLoadRect (View.loadsAt_vmem h_S128x256)) fun v1228 =>
  .op (.load (Memref.whole cc0_scratch6) (Rect.unit (s := S256x128) ![0, 0] S256x128.size inb_S256x128_S256x128_0_0).toLoadRect (View.loadsAt_vmem h_S256x128)) fun v1229 =>
  .op (.load (Memref.whole cc0_stg0_0) (Rect.unit (s := S128x128) ![0, 0] S128x128.size inb_S128x128_S128x128_0_0).toLoadRect (View.loadsAt_vmem h_S128x128)) fun _ =>
  .op (.store (Memref.whole cc0_stg0_0) (Rect.unit (s := S128x128) ![0, 0] S128x128.size inb_S128x128_S128x128_0_0) (k0_pay11 v1228 v1229) Finset.univ (View.stores_vmem_bits_univ h_S128x128 rfl) (.inl rfl)) fun _ =>
  tail c

/-- The third layer's rows of this device sent to all, and all received. -/
def phAg3 (c : Dev nD) : PU F := forOps devs (ag3E c) (forOps devs ag3WR (phOut c))

/-- Layers two and three of this device's rows. -/
def phH3 (c : Dev nD) (h1 : FVec F S4x256 .bf16) : PU F :=
  .op (.load (Memref.whole cc0_scratch11) (Rect.unit (s := S512x256) ![0, 0] S256x256.size inb_S512x256_S256x256_0_0).toLoadRect (View.loadsAt_vmem h_S256x256)) fun v990 =>
  .op (.load (Memref.whole cc0_scratch11) (Rect.unit (s := S512x256) ![256, 0] S256x256.size inb_S512x256_S256x256_256_0).toLoadRect (View.loadsAt_vmem h_S256x256)) fun v995 =>
  .op (.load (Memref.whole cc0_scratch13) (Rect.unit (s := S4x256) ![0, 0] S4x256.size inb_S4x256_S4x256_0_0).toLoadRect (View.loadsAt_vmem h_S4x256)) fun _ =>
  .op (.store (Memref.whole cc0_scratch13) (Rect.unit (s := S4x256) ![0, 0] S4x256.size inb_S4x256_S4x256_0_0) (k0_pay10 (k0_pay9 h1 v990) v995) Finset.univ (View.stores_vmem_bits_univ h_S4x256 rfl) (.inl rfl)) fun _ =>
  phAg3 c

/-- The first layer's partial sums received and added, and the gathered weight products received. -/
def phH1 (c : Dev nD) : PU F :=
  forOps devs l1WR (.op (.load (Memref.whole cc0_scratch12) (Rect.unit (s := S32x4x256) ![0, 0, 0] S32x4x256.size inb_S32x4x256_S32x4x256_0_0_0).toLoadRect (View.loadsAt_vmem h_S32x4x256)) fun v889 =>
    forOps devs wfagWR (phH3 c (k0_pay8 (k0_pay6 v889) k0_pay7)))

/-- The weight products' partial sums received and added, and sent to all. -/
def phRed (c : Dev nD) : PU F :=
  forOps devs wfrsWR (.op (.load (Memref.whole cc0_scratch9) (Rect.unit (s := S32x16x256) ![0, 0, 0] S32x16x256.size inb_S32x16x256_S32x16x256_0_0_0).toLoadRect (View.loadsAt_vmem h_S32x16x256)) fun v594 =>
    .op (.load (Memref.whole cc0_scratch10) (Rect.unit (s := S16x256) ![0, 0] S16x256.size inb_S16x256_S16x256_0_0).toLoadRect (View.loadsAt_vmem h_S16x256)) fun _ =>
    .op (.store (Memref.whole cc0_scratch10) (Rect.unit (s := S16x256) ![0, 0] S16x256.size inb_S16x256_S16x256_0_0) (k0_pay5 (k0_pay4 v594)) Finset.univ (View.stores_vmem h_S16x256 ((Memref.isWhole_whole cc0_scratch10).storeExact_slice rfl _ packedbf16_S16x256_S16x256_0_0) (fun _ => rfl)) (.inl rfl)) fun _ =>
    forOps devs (wfagE c) (phH1 c))

/-- The first layer's partial sums computed and sent. -/
def phP1 (c : Dev nD) : PU F :=
  .op (fetchW (Memref.whole main_arg0) (Memref.whole cc0_scratch0) (Memref.isWhole_whole _) (Memref.isWhole_whole _) 4) fun _ =>
  .op (fetchW (Memref.whole main_arg1) (Memref.whole cc0_scratch1) (Memref.isWhole_whole _) (Memref.isWhole_whole _) 5) fun _ =>
  .op (.load (Memref.whole cc0_scratch0) (Rect.unit (s := S128x128) ![0, 0] S128x128.size inb_S128x128_S128x128_0_0).toLoadRect (View.loadsAt_vmem h_S128x128)) fun v268 =>
  .op (.load (Memref.whole cc0_scratch1) (Rect.unit (s := S128x256) ![0, 0] S128x256.size inb_S128x256_S128x256_0_0).toLoadRect (View.loadsAt_vmem h_S128x256)) fun v269 =>
  .op (.load (Memref.whole cc0_scratch7) (Rect.unit (s := S128x256) ![0, 0] S128x256.size inb_S128x256_S128x256_0_0).toLoadRect (View.loadsAt_vmem h_S128x256)) fun _ =>
  .op (.store (Memref.whole cc0_scratch7) (Rect.unit (s := S128x256) ![0, 0] S128x256.size inb_S128x256_S128x256_0_0) (k0_pay3 v268 v269) Finset.univ (View.stores_vmem_bits_univ h_S128x256 rfl) (.inl rfl)) fun _ =>
  forOps devs (l1E c) (phRed c)

/-- The zeros the second weight product accumulates from. -/
abbrev zeroAcc : FVec F S256x256 .f32 := constant S256x256 .f32 0x00000000#32

/-- The two partial weight products computed and sent. -/
def phWf (c : Dev nD) : PU F :=
  .op (fetchW (Memref.whole main_arg4) (Memref.whole cc0_scratch2) (Memref.isWhole_whole _) (Memref.isWhole_whole _) 0) fun _ =>
  .op (fetchW (Memref.whole main_arg2) (Memref.whole cc0_scratch3) (Memref.isWhole_whole _) (Memref.isWhole_whole _) 1) fun _ =>
  .op (.load (Memref.whole cc0_scratch2) (Rect.unit (s := S256x128) ![0, 0] S256x128.size inb_S256x128_S256x128_0_0).toLoadRect (View.loadsAt_vmem h_S256x128)) fun v86 =>
  .op (.load (Memref.whole cc0_scratch3) (Rect.unit (s := S128x256) ![0, 0] S128x256.size inb_S128x256_S128x256_0_0).toLoadRect (View.loadsAt_vmem h_S128x256)) fun v87 =>
  .op (.load (Memref.whole cc0_scratch8) (Rect.unit (s := S512x256) ![0, 0] S256x256.size inb_S512x256_S256x256_0_0).toLoadRect (View.loadsAt_vmem h_S256x256)) fun _ =>
  .op (.store (Memref.whole cc0_scratch8) (Rect.unit (s := S512x256) ![0, 0] S256x256.size inb_S512x256_S256x256_0_0) (k0_pay1 v86 v87) Finset.univ (View.stores_vmem h_S256x256 ((Memref.isWhole_whole cc0_scratch8).storeExact_slice rfl _ packedbf16_S512x256_S256x256_0_0) (fun _ => rfl)) (.inl rfl)) fun _ =>
  .op (fetchW (Memref.whole main_arg5) (Memref.whole cc0_scratch4) (Memref.isWhole_whole _) (Memref.isWhole_whole _) 2) fun _ =>
  .op (fetchW (Memref.whole main_arg3) (Memref.whole cc0_scratch5) (Memref.isWhole_whole _) (Memref.isWhole_whole _) 3) fun _ =>
  .op (.load (Memref.whole cc0_scratch4) (Rect.unit (s := S256x128) ![0, 0] S256x128.size inb_S256x128_S256x128_0_0).toLoadRect (View.loadsAt_vmem h_S256x128)) fun v97 =>
  .op (.load (Memref.whole cc0_scratch5) (Rect.unit (s := S128x256) ![0, 0] S128x256.size inb_S128x256_S128x256_0_0).toLoadRect (View.loadsAt_vmem h_S128x256)) fun v98 =>
  .op (.load (Memref.whole cc0_scratch8) (Rect.unit (s := S512x256) ![256, 0] S256x256.size inb_S512x256_S256x256_256_0).toLoadRect (View.loadsAt_vmem h_S256x256)) fun _ =>
  .op (.store (Memref.whole cc0_scratch8) (Rect.unit (s := S512x256) ![256, 0] S256x256.size inb_S512x256_S256x256_256_0) (k0_pay2 v97 v98 zeroAcc) Finset.univ (View.stores_vmem h_S256x256 ((Memref.isWhole_whole cc0_scratch8).storeExact_slice rfl _ packedbf16_S512x256_S256x256_256_0) (fun _ => rfl)) (.inl rfl)) fun _ =>
  forOps devs (wfrsE c) (phP1 c)

/-- The barrier: one unit to every device, then 32 awaited. -/
def phBar (c : Dev nD) : PU F :=
  forOps devs signalE (.op (.semWait barS ((32 : ℕ) : ℤ)) fun _ => phWf c)

/-- The whole body, on device `c`. -/
def phFetch (c : Dev nD) : PU F :=
  .op (fetchE (Memref.whole main_arg4) (Memref.whole cc0_scratch2) (Memref.isWhole_whole _) (Memref.isWhole_whole _) 0) fun _ =>
  .op (fetchE (Memref.whole main_arg2) (Memref.whole cc0_scratch3) (Memref.isWhole_whole _) (Memref.isWhole_whole _) 1) fun _ =>
  .op (fetchE (Memref.whole main_arg5) (Memref.whole cc0_scratch4) (Memref.isWhole_whole _) (Memref.isWhole_whole _) 2) fun _ =>
  .op (fetchE (Memref.whole main_arg3) (Memref.whole cc0_scratch5) (Memref.isWhole_whole _) (Memref.isWhole_whole _) 3) fun _ =>
  .op (fetchE (Memref.whole main_arg0) (Memref.whole cc0_scratch0) (Memref.isWhole_whole _) (Memref.isWhole_whole _) 4) fun _ =>
  .op (fetchE (Memref.whole main_arg1) (Memref.whole cc0_scratch1) (Memref.isWhole_whole _) (Memref.isWhole_whole _) 5) fun _ =>
  .op (fetchE (Memref.whole main_arg6) (Memref.whole cc0_scratch6) (Memref.isWhole_whole _) (Memref.isWhole_whole _) 6) fun _ =>
  phBar c

def bodyP : PU F := .op .deviceId fun c => phFetch c

set_option maxRecDepth 65536 in
/-- The printed body, on the buffers the launch passes it, is the one with the loops. -/
theorem bodyP_eq : bodyAt0 (F := F) t0_0 = bodyP := by
  chain_rfl

end Cert.MlpProof

end
-- ==== Proof.Contents.lean ====
/-
# What the buffers hold, and the windows as element sets

The contents of every buffer of the launch as functions of the arguments' contents at launch, device by device; where each
window of a buffer places its elements; that the 32 windows of a buffer are disjoint and cover it; and that a copy from one
device into a window of another writes what the receiving buffer is to hold.
-/
module

public import proofs.«01_k».proof.Proof.Program
public import Idealize.ShloMosaic.Lib.ValueIdxCore
public import Idealize.ShloMosaic.Lib.Pipeline.ValueKit.Geometry
public import Idealize.ShloMosaic.Lib.Memref

@[expose] public section

noncomputable section

namespace Cert.MlpProof

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Where the windows place their elements -/

/-- Row `a` of block `k` of 16 rows. -/
def row16 (k : Dev nD) (a : Fin 16) : Fin 512 := ⟨16 * k.val + a.val, by have := k.isLt; have := a.isLt; simp only [nD] at *; omega⟩
/-- Row `a` of block `k` of 4 rows. -/
def row4 (k : Dev nD) (a : Fin 4) : Fin 128 := ⟨4 * k.val + a.val, by have := k.isLt; have := a.isLt; simp only [nD] at *; omega⟩

/-- Window `k` of the source of the weight products begins at row `16 k`. -/
theorem emb_wfSrc (k : Dev nD) (j : S16x256.Idx) : (wfSrcM k).view.emb j = (ix2 (row16 k (j 0)) (j 1) : S512x256.Idx) := by
  funext a; refine Fin.ext ?_
  refine (ValueKit.view_emb_slice_whole_unit_val cc0_scratch8 _ _ _ j a).trans ?_
  match a with
  | ⟨0, _⟩ => rfl
  | ⟨1, _⟩ => exact Nat.zero_add _
/-- Window `k` of the gathered weight products begins at row `16 k`. -/
theorem emb_wfFull (k : Dev nD) (j : S16x256.Idx) : (wfFullM k).view.emb j = (ix2 (row16 k (j 0)) (j 1) : S512x256.Idx) := by
  funext a; refine Fin.ext ?_
  refine (ValueKit.view_emb_slice_whole_unit_val cc0_scratch11 _ _ _ j a).trans ?_
  match a with
  | ⟨0, _⟩ => rfl
  | ⟨1, _⟩ => exact Nat.zero_add _
/-- Window `k` of the source of the first layer's products begins at row `4 k`. -/
theorem emb_p1 (k : Dev nD) (j : S4x256.Idx) : (p1M k).view.emb j = (ix2 (row4 k (j 0)) (j 1) : S128x256.Idx) := by
  funext a; refine Fin.ext ?_
  refine (ValueKit.view_emb_slice_whole_unit_val cc0_scratch7 _ _ _ j a).trans ?_
  match a with
  | ⟨0, _⟩ => rfl
  | ⟨1, _⟩ => exact Nat.zero_add _
/-- Window `k` of the gathered third layer begins at row `4 k`. -/
theorem emb_h3Full (k : Dev nD) (j : S4x256.Idx) : (h3FullM k).view.emb j = (ix2 (row4 k (j 0)) (j 1) : S128x256.Idx) := by
  funext a; refine Fin.ext ?_
  refine (ValueKit.view_emb_slice_whole_unit_val cc0_scratch14 _ _ _ j a).trans ?_
  match a with
  | ⟨0, _⟩ => rfl
  | ⟨1, _⟩ => exact Nat.zero_add _

/-- Slot `k` for the weight products is plane `k`. -/
theorem emb_wfSlot (k : Dev nD) (j : S16x256.Idx) : (wfSlotM k).view.emb j = (ix3 k (j 0) (j 1) : S32x16x256.Idx) := by
  have h : Shape.reshapeEquiv (s := S1x16x256) (s' := S16x256) squeezes_S1x16x256_S16x256.numel_eq j = (ix3 (0 : Fin 1) (j 0) (j 1) : S1x16x256.Idx) := by
    apply Shape.reshapeEquiv_eq_of_rowMajor
    rw [Shape.rowMajor_val_two, Shape.rowMajor_val_three]
    show (0 * 16 + (j 0).val) * 256 + (j 1).val = (j 0).val * 256 + (j 1).val
    omega
  funext a; refine Fin.ext ?_
  show ((((View.whole cc0_scratch9).slice (Rect.unit (s := S32x16x256) ![k.val, 0, 0] S1x16x256.size (inb_slot16 k))).emb (Shape.reshapeEquiv (s := S1x16x256) (s' := S16x256) squeezes_S1x16x256_S16x256.numel_eq j) a : Fin _) : Nat) = _
  rw [h]
  refine (ValueKit.view_emb_slice_whole_unit_val cc0_scratch9 _ _ _ _ a).trans ?_
  match a with
  | ⟨0, _⟩ => exact Nat.add_zero _
  | ⟨1, _⟩ => exact Nat.zero_add _
  | ⟨2, _⟩ => exact Nat.zero_add _
/-- Slot `k` for the first layer's products is plane `k`. -/
theorem emb_l1Slot (k : Dev nD) (j : S4x256.Idx) : (l1SlotM k).view.emb j = (ix3 k (j 0) (j 1) : S32x4x256.Idx) := by
  have h : Shape.reshapeEquiv (s := S1x4x256) (s' := S4x256) squeezes_S1x4x256_S4x256.numel_eq j = (ix3 (0 : Fin 1) (j 0) (j 1) : S1x4x256.Idx) := by
    apply Shape.reshapeEquiv_eq_of_rowMajor
    rw [Shape.rowMajor_val_two, Shape.rowMajor_val_three]
    show (0 * 4 + (j 0).val) * 256 + (j 1).val = (j 0).val * 256 + (j 1).val
    omega
  funext a; refine Fin.ext ?_
  show ((((View.whole cc0_scratch12).slice (Rect.unit (s := S32x4x256) ![k.val, 0, 0] S1x4x256.size (inb_slot4 k))).emb (Shape.reshapeEquiv (s := S1x4x256) (s' := S4x256) squeezes_S1x4x256_S4x256.numel_eq j) a : Fin _) : Nat) = _
  rw [h]
  refine (ValueKit.view_emb_slice_whole_unit_val cc0_scratch12 _ _ _ _ a).trans ?_
  match a with
  | ⟨0, _⟩ => exact Nat.add_zero _
  | ⟨1, _⟩ => exact Nat.zero_add _
  | ⟨2, _⟩ => exact Nat.zero_add _

/-! ## Which elements a window holds -/

/-- An element lies in window `k` when its row divided by 16 is `k`. -/
theorem mem_wfSrc {k : Dev nD} {i : S512x256.Idx} : i ∈ (wfSrcM k).view.set ↔ (i 0).val / 16 = k.val := by
  refine ValueKit.mem_set_slice_whole_iff cc0_scratch8 _ i (Rect.mem_set_unit.trans ⟨fun h => ?_, fun h a => ?_⟩)
  · have h0 : 16 * k.val ≤ (i 0).val ∧ (i 0).val < 16 * k.val + 16 := h 0
    omega
  · match a with
    | ⟨0, _⟩ => show 16 * k.val ≤ (i 0).val ∧ (i 0).val < 16 * k.val + 16; omega
    | ⟨1, _⟩ => exact ⟨Nat.zero_le _, by rw [show (![16 * k.val, 0] : Fin 2 → Nat) ⟨1, by decide⟩ = 0 from rfl, Nat.zero_add]; exact (i 1).isLt⟩
/-- An element lies in window `k` when its row divided by 16 is `k`. -/
theorem mem_wfFull {k : Dev nD} {i : S512x256.Idx} : i ∈ (wfFullM k).view.set ↔ (i 0).val / 16 = k.val := by
  refine ValueKit.mem_set_slice_whole_iff cc0_scratch11 _ i (Rect.mem_set_unit.trans ⟨fun h => ?_, fun h a => ?_⟩)
  · have h0 : 16 * k.val ≤ (i 0).val ∧ (i 0).val < 16 * k.val + 16 := h 0
    omega
  · match a with
    | ⟨0, _⟩ => show 16 * k.val ≤ (i 0).val ∧ (i 0).val < 16 * k.val + 16; omega
    | ⟨1, _⟩ => exact ⟨Nat.zero_le _, by rw [show (![16 * k.val, 0] : Fin 2 → Nat) ⟨1, by decide⟩ = 0 from rfl, Nat.zero_add]; exact (i 1).isLt⟩
/-- An element lies in window `k` when its row divided by 4 is `k`. -/
theorem mem_p1 {k : Dev nD} {i : S128x256.Idx} : i ∈ (p1M k).view.set ↔ (i 0).val / 4 = k.val := by
  refine ValueKit.mem_set_slice_whole_iff cc0_scratch7 _ i (Rect.mem_set_unit.trans ⟨fun h => ?_, fun h a => ?_⟩)
  · have h0 : 4 * k.val ≤ (i 0).val ∧ (i 0).val < 4 * k.val + 4 := h 0
    omega
  · match a with
    | ⟨0, _⟩ => show 4 * k.val ≤ (i 0).val ∧ (i 0).val < 4 * k.val + 4; omega
    | ⟨1, _⟩ => exact ⟨Nat.zero_le _, by rw [show (![4 * k.val, 0] : Fin 2 → Nat) ⟨1, by decide⟩ = 0 from rfl, Nat.zero_add]; exact (i 1).isLt⟩
/-- An element lies in window `k` when its row divided by 4 is `k`. -/
theorem mem_h3Full {k : Dev nD} {i : S128x256.Idx} : i ∈ (h3FullM k).view.set ↔ (i 0).val / 4 = k.val := by
  refine ValueKit.mem_set_slice_whole_iff cc0_scratch14 _ i (Rect.mem_set_unit.trans ⟨fun h => ?_, fun h a => ?_⟩)
  · have h0 : 4 * k.val ≤ (i 0).val ∧ (i 0).val < 4 * k.val + 4 := h 0
    omega
  · match a with
    | ⟨0, _⟩ => show 4 * k.val ≤ (i 0).val ∧ (i 0).val < 4 * k.val + 4; omega
    | ⟨1, _⟩ => exact ⟨Nat.zero_le _, by rw [show (![4 * k.val, 0] : Fin 2 → Nat) ⟨1, by decide⟩ = 0 from rfl, Nat.zero_add]; exact (i 1).isLt⟩
/-- An element lies in slot `k` when its first coordinate is `k`. -/
theorem mem_wfSlot {k : Dev nD} {i : S32x16x256.Idx} : i ∈ (wfSlotM k).view.set ↔ (i 0).val = k.val := by
  have e : (wfSlotM k).view.set = ((View.whole cc0_scratch9).slice (Rect.unit (s := S32x16x256) ![k.val, 0, 0] S1x16x256.size (inb_slot16 k))).set := View.set_reshape _ _
  rw [e]
  refine ValueKit.mem_set_slice_whole_iff cc0_scratch9 _ i (Rect.mem_set_unit.trans ⟨fun h => ?_, fun h a => ?_⟩)
  · have h0 : k.val ≤ (i 0).val ∧ (i 0).val < k.val + 1 := h 0
    omega
  · match a with
    | ⟨0, _⟩ => show k.val ≤ (i 0).val ∧ (i 0).val < k.val + 1; omega
    | ⟨1, _⟩ => exact ⟨Nat.zero_le _, by rw [show (![k.val, 0, 0] : Fin 3 → Nat) ⟨1, by decide⟩ = 0 from rfl, Nat.zero_add]; exact (i 1).isLt⟩
    | ⟨2, _⟩ => exact ⟨Nat.zero_le _, by rw [show (![k.val, 0, 0] : Fin 3 → Nat) ⟨2, by decide⟩ = 0 from rfl, Nat.zero_add]; exact (i 2).isLt⟩
/-- An element lies in slot `k` when its first coordinate is `k`. -/
theorem mem_l1Slot {k : Dev nD} {i : S32x4x256.Idx} : i ∈ (l1SlotM k).view.set ↔ (i 0).val = k.val := by
  have e : (l1SlotM k).view.set = ((View.whole cc0_scratch12).slice (Rect.unit (s := S32x4x256) ![k.val, 0, 0] S1x4x256.size (inb_slot4 k))).set := View.set_reshape _ _
  rw [e]
  refine ValueKit.mem_set_slice_whole_iff cc0_scratch12 _ i (Rect.mem_set_unit.trans ⟨fun h => ?_, fun h a => ?_⟩)
  · have h0 : k.val ≤ (i 0).val ∧ (i 0).val < k.val + 1 := h 0
    omega
  · match a with
    | ⟨0, _⟩ => show k.val ≤ (i 0).val ∧ (i 0).val < k.val + 1; omega
    | ⟨1, _⟩ => exact ⟨Nat.zero_le _, by rw [show (![k.val, 0, 0] : Fin 3 → Nat) ⟨1, by decide⟩ = 0 from rfl, Nat.zero_add]; exact (i 1).isLt⟩
    | ⟨2, _⟩ => exact ⟨Nat.zero_le _, by rw [show (![k.val, 0, 0] : Fin 3 → Nat) ⟨2, by decide⟩ = 0 from rfl, Nat.zero_add]; exact (i 2).isLt⟩

/-- Sets named by a number of each element: two of different numbers are disjoint. -/
theorem disjoint_of_key {α : Type} {I : Dev nD → Finset α} {key : α → ℕ} (h : ∀ k i, i ∈ I k ↔ key i = k.val) (b b' : Dev nD) (hb : b ≠ b') :
    Disjoint (I b) (I b') :=
  Finset.disjoint_left.mpr fun i hi hi' => hb (Fin.ext (((h b i).mp hi).symm.trans ((h b' i).mp hi')))
/-- They cover when every number is a device's. -/
theorem cover_of_key {α : Type} [Fintype α] [DecidableEq α] {I : Dev nD → Finset α} {key : α → ℕ} (h : ∀ k i, i ∈ I k ↔ key i = k.val) (hk : ∀ i, key i < nD) :
    Finset.univ.biUnion I = Finset.univ :=
  Finset.eq_univ_iff_forall.mpr fun i => Finset.mem_biUnion.mpr ⟨⟨key i, hk i⟩, Finset.mem_univ _, (h _ i).mpr rfl⟩

/-- 512 rows are 32 windows of 16. -/
theorem key16 (i : S512x256.Idx) : (i 0).val / 16 < nD := by have : (i 0).val < 512 := (i 0).isLt; show _ < 32; omega
/-- 128 rows are 32 windows of 4. -/
theorem key4 (i : S128x256.Idx) : (i 0).val / 4 < nD := by have : (i 0).val < 128 := (i 0).isLt; show _ < 32; omega

/-! ## The printed windows at the device's own index are these -/

/-- The slot that the program names by its device's number is slot `c`. -/
theorem wfSlotD_eq (c : Dev nD) : wfSlotD c = wfSlotM c := by
  have h : ∀ (o : Fin 3 → Nat) (ho : ∀ a, o a + S1x16x256.size a ≤ S32x16x256.size a), o = ![c.val, 0, 0] →
      ((Memref.whole cc0_scratch9).slice (Rect.unit (s := S32x16x256) o S1x16x256.size ho) (fun _ => rfl)).squeeze S16x256 squeezes_S1x16x256_S16x256 = wfSlotM c := by
    intro o ho e; subst e; rfl
  exact h _ _ (k0_off1_eq c)
/-- The slot that the program names by its device's number is slot `c`. -/
theorem l1SlotD_eq (c : Dev nD) : l1SlotD c = l1SlotM c := by
  have h : ∀ (o : Fin 3 → Nat) (ho : ∀ a, o a + S1x4x256.size a ≤ S32x4x256.size a), o = ![c.val, 0, 0] →
      ((Memref.whole cc0_scratch12).slice (Rect.unit (s := S32x4x256) o S1x4x256.size ho) (fun _ => rfl)).squeeze S4x256 squeezes_S1x4x256_S4x256 = l1SlotM c := by
    intro o ho e; subst e; rfl
  exact h _ _ (k0_off2_eq c)
/-- The window that the program names by its device's number is window `c`. -/
theorem wfFullD_eq (c : Dev nD) : wfFullD c = wfFullM c := by
  have h : ∀ (o : Fin 2 → Nat) (ho : ∀ a, o a + S16x256.size a ≤ S512x256.size a), o = ![16 * c.val, 0] →
      (Memref.whole cc0_scratch11).slice (Rect.unit (s := S512x256) o S16x256.size ho) (fun _ => rfl) = wfFullM c := by
    intro o ho e; subst e; rfl
  exact h _ _ (k0_off3_eq c)
/-- The window that the program names by its device's number is window `c`. -/
theorem h3FullD_eq (c : Dev nD) : h3FullD c = h3FullM c := by
  have h : ∀ (o : Fin 2 → Nat) (ho : ∀ a, o a + S4x256.size a ≤ S128x256.size a), o = ![4 * c.val, 0] →
      (Memref.whole cc0_scratch14).slice (Rect.unit (s := S128x256) o S4x256.size ho) (fun _ => rfl) = h3FullM c := by
    intro o ho e; subst e; rfl
  exact h _ _ (k0_off4_eq c)

/-! ## The contents -/

variable (m : (ℓ : Loc nD τ sig) → Buf (Elt F) ℓ)

/-- The arguments' contents on a device. -/
def xC (c : Dev nD) : FVec F S128x128 .f32 := m ((c : Thread nD τ).loc main_arg0)
def win0C (c : Dev nD) : FVec F S128x256 .f32 := m ((c : Thread nD τ).loc main_arg1)
def win1C (c : Dev nD) : FVec F S128x256 .f32 := m ((c : Thread nD τ).loc main_arg2)
def win2C (c : Dev nD) : FVec F S128x256 .f32 := m ((c : Thread nD τ).loc main_arg3)
def wout0C (c : Dev nD) : FVec F S256x128 .f32 := m ((c : Thread nD τ).loc main_arg4)
def wout1C (c : Dev nD) : FVec F S256x128 .f32 := m ((c : Thread nD τ).loc main_arg5)
def wout2C (c : Dev nD) : FVec F S256x128 .f32 := m ((c : Thread nD τ).loc main_arg6)

/-- The two partial weight products of a device, one above the other. -/
def stack (a b : FVec F S256x256 .bf16) : FVec F S512x256 .bf16 := fun i =>
  if h : (i 0).val < 256 then a (ix2 ⟨(i 0).val, h⟩ (i 1)) else b (ix2 ⟨(i 0).val - 256, by have : (i 0).val < 512 := (i 0).isLt; omega⟩ (i 1))
def wfSrcC (c : Dev nD) : FVec F S512x256 .bf16 := stack (k0_pay1 (wout0C m c) (win1C m c)) (k0_pay2 (wout1C m c) (win2C m c) zeroAcc)
/-- What device `c` receives of them: its 16 rows from every device. -/
def slotsC (c : Dev nD) : FVec F S32x16x256 .bf16 := fun i => wfSrcC m (i 0) (ix2 (row16 c (i 1)) (i 2))
/-- Their sum. -/
def redC (c : Dev nD) : FVec F S16x256 .bf16 := k0_pay5 (k0_pay4 (slotsC m c))
/-- The sums of all devices gathered. -/
def fullC : FVec F S512x256 .bf16 := fun i => redC m ⟨(i 0).val / 16, key16 i⟩ (ix2 ⟨(i 0).val % 16, Nat.mod_lt _ (by decide)⟩ (i 1))
/-- The first layer's partial sums of a device. -/
def p1C (c : Dev nD) : FVec F S128x256 .f32 := k0_pay3 (xC m c) (win0C m c)
/-- What device `c` receives of them: its 4 rows from every device. -/
def l1C (c : Dev nD) : FVec F S32x4x256 .f32 := fun i => p1C m (i 0) (ix2 (row4 c (i 1)) (i 2))
/-- The first layer's rows of device `c`. -/
def h1C (c : Dev nD) : FVec F S4x256 .bf16 := k0_pay8 (k0_pay6 (l1C m c)) k0_pay7
/-- The two halves of the gathered products. -/
def topC : FVec F S256x256 .bf16 := fun i => fullC m (ix2 ⟨(i 0).val, by have : (i 0).val < 256 := (i 0).isLt; omega⟩ (i 1))
def botC : FVec F S256x256 .bf16 := fun i => fullC m (ix2 ⟨256 + (i 0).val, by have : (i 0).val < 256 := (i 0).isLt; omega⟩ (i 1))
/-- The third layer's rows of device `c`. -/
def h3redC (c : Dev nD) : FVec F S4x256 .f32 := k0_pay10 (k0_pay9 (h1C m c) (topC m)) (botC m)
/-- The third layer's rows of all devices gathered. -/
def h3C : FVec F S128x256 .f32 := fun i => h3redC m ⟨(i 0).val / 4, key4 i⟩ (ix2 ⟨(i 0).val % 4, Nat.mod_lt _ (by decide)⟩ (i 1))
/-- The result on device `c`. -/
def outC (c : Dev nD) : FVec F S128x128 .f32 := k0_pay11 (h3C m) (wout2C m c)

/-! ## What a copy into a window writes -/

/-- A copy writes, at every element of its window, what the receiving buffer is to hold there. -/
theorem landed_of {sp sp' : Space} {s : Shape} {e : EltTy} (v : View sig .tc sp s e) (w : View sig .tc sp' s e) (fd G : v.ty.Contents (Elt F)) (fs : w.ty.Contents (Elt F))
    (h : ∀ j : s.Idx, w.read (Elt F) fs j = v.read (Elt F) G j) (i : v.ty.Idx) (hi : i ∈ v.set) :
    v.write (Elt F) fd (w.read (Elt F) fs) Finset.univ i = G i := by
  obtain ⟨j, -, rfl⟩ := Finset.mem_map.mp hi
  rw [View.write_emb_of_mem _ _ (Finset.mem_univ j), h j, View.read_apply, cast_cast, cast_eq]

/-- What device `c` sends of its weight products to `d` is what `d`'s slots hold in slot `c`. -/
theorem landed_wfrs (c d : Dev nD) (fd : (wfSlotM c).view.ty.Contents (Elt F)) (i) (hi : i ∈ (wfSlotM c).view.set) :
    (wfSlotM c).view.write (Elt F) fd ((wfSrcM d).view.read (Elt F) (wfSrcC m c)) Finset.univ i = slotsC m d i :=
  landed_of _ _ _ (slotsC m d) _ (fun j => by
    show wfSrcC m c ((wfSrcM d).view.emb j) = slotsC m d ((wfSlotM c).view.emb j)
    rw [emb_wfSrc, emb_wfSlot]; rfl) i hi
/-- What device `c` sends of its first-layer products to `d` is what `d`'s slots hold in slot `c`. -/
theorem landed_l1 (c d : Dev nD) (fd : (l1SlotM c).view.ty.Contents (Elt F)) (i) (hi : i ∈ (l1SlotM c).view.set) :
    (l1SlotM c).view.write (Elt F) fd ((p1M d).view.read (Elt F) (p1C m c)) Finset.univ i = l1C m d i :=
  landed_of _ _ _ (l1C m d) _ (fun j => by
    show p1C m c ((p1M d).view.emb j) = l1C m d ((l1SlotM c).view.emb j)
    rw [emb_p1, emb_l1Slot]; rfl) i hi
/-- Device `c`'s sums of the weight products are window `c` of the gathered ones. -/
theorem landed_wfag (c : Dev nD) (fd : (wfFullM c).view.ty.Contents (Elt F)) (i) (hi : i ∈ (wfFullM c).view.set) :
    (wfFullM c).view.write (Elt F) fd (wfRedM.view.read (Elt F) (redC m c)) Finset.univ i = fullC m i :=
  landed_of _ _ _ (fullC m) _ (fun j => by
    show redC m c j = fullC m ((wfFullM c).view.emb j)
    rw [emb_wfFull]
    have hj : (j 0).val < 16 := (j 0).isLt
    have h1 : (⟨(row16 c (j 0)).val / 16, key16 (ix2 (row16 c (j 0)) (j 1))⟩ : Dev nD) = c := Fin.ext (by show (16 * c.val + (j 0).val) / 16 = c.val; omega)
    have h2 : (⟨(row16 c (j 0)).val % 16, Nat.mod_lt _ (by decide)⟩ : Fin 16) = j 0 := Fin.ext (by show (16 * c.val + (j 0).val) % 16 = (j 0).val; omega)
    show redC m c j = redC m ⟨(row16 c (j 0)).val / 16, key16 (ix2 (row16 c (j 0)) (j 1))⟩ (ix2 ⟨(row16 c (j 0)).val % 16, Nat.mod_lt _ (by decide)⟩ (j 1))
    rw [h1, h2]; exact congrArg _ (eq_ix2 j)) i hi
/-- Device `c`'s rows of the third layer are window `c` of the gathered layer. -/
theorem landed_ag3 (c : Dev nD) (fd : (h3FullM c).view.ty.Contents (Elt F)) (i) (hi : i ∈ (h3FullM c).view.set) :
    (h3FullM c).view.write (Elt F) fd (h3RedM.view.read (Elt F) (h3redC m c)) Finset.univ i = h3C m i :=
  landed_of _ _ _ (h3C m) _ (fun j => by
    show h3redC m c j = h3C m ((h3FullM c).view.emb j)
    rw [emb_h3Full]
    have hj : (j 0).val < 4 := (j 0).isLt
    have h1 : (⟨(row4 c (j 0)).val / 4, key4 (ix2 (row4 c (j 0)) (j 1))⟩ : Dev nD) = c := Fin.ext (by show (4 * c.val + (j 0).val) / 4 = c.val; omega)
    have h2 : (⟨(row4 c (j 0)).val % 4, Nat.mod_lt _ (by decide)⟩ : Fin 4) = j 0 := Fin.ext (by show (4 * c.val + (j 0).val) % 4 = (j 0).val; omega)
    show h3redC m c j = h3redC m ⟨(row4 c (j 0)).val / 4, key4 (ix2 (row4 c (j 0)) (j 1))⟩ (ix2 ⟨(row4 c (j 0)).val % 4, Nat.mod_lt _ (by decide)⟩ (j 1))
    rw [h1, h2]; exact congrArg _ (eq_ix2 j)) i hi

/-! ## The loads and stores of halves -/

abbrev rTop : Rect S512x256 := Rect.unit (s := S512x256) ![0, 0] S256x256.size inb_S512x256_S256x256_0_0
abbrev rBot : Rect S512x256 := Rect.unit (s := S512x256) ![256, 0] S256x256.size inb_S512x256_S256x256_256_0

/-- The upper half of the source of the weight products begins at row 0. -/
theorem emb_top8 (j : S256x256.Idx) : ((View.whole cc0_scratch8).slice rTop).emb j = (ix2 ⟨(j 0).val, by have : (j 0).val < 256 := (j 0).isLt; omega⟩ (j 1) : S512x256.Idx) := by
  funext a; refine Fin.ext ?_
  refine (ValueKit.view_emb_slice_whole_unit_val cc0_scratch8 _ _ _ j a).trans ?_
  match a with
  | ⟨0, _⟩ => exact Nat.zero_add _
  | ⟨1, _⟩ => exact Nat.zero_add _
/-- The lower half of the source of the weight products begins at row 256. -/
theorem emb_bot8 (j : S256x256.Idx) : ((View.whole cc0_scratch8).slice rBot).emb j = (ix2 ⟨256 + (j 0).val, by have : (j 0).val < 256 := (j 0).isLt; omega⟩ (j 1) : S512x256.Idx) := by
  funext a; refine Fin.ext ?_
  refine (ValueKit.view_emb_slice_whole_unit_val cc0_scratch8 _ _ _ j a).trans ?_
  match a with
  | ⟨0, _⟩ => rfl
  | ⟨1, _⟩ => exact Nat.zero_add _
/-- The upper half of the gathered weight products begins at row 0. -/
theorem emb_top11 (j : S256x256.Idx) : ((View.whole cc0_scratch11).slice rTop).emb j = (ix2 ⟨(j 0).val, by have : (j 0).val < 256 := (j 0).isLt; omega⟩ (j 1) : S512x256.Idx) := by
  funext a; refine Fin.ext ?_
  refine (ValueKit.view_emb_slice_whole_unit_val cc0_scratch11 _ _ _ j a).trans ?_
  match a with
  | ⟨0, _⟩ => exact Nat.zero_add _
  | ⟨1, _⟩ => exact Nat.zero_add _
/-- The lower half of the gathered weight products begins at row 256. -/
theorem emb_bot11 (j : S256x256.Idx) : ((View.whole cc0_scratch11).slice rBot).emb j = (ix2 ⟨256 + (j 0).val, by have : (j 0).val < 256 := (j 0).isLt; omega⟩ (j 1) : S512x256.Idx) := by
  funext a; refine Fin.ext ?_
  refine (ValueKit.view_emb_slice_whole_unit_val cc0_scratch11 _ _ _ j a).trans ?_
  match a with
  | ⟨0, _⟩ => rfl
  | ⟨1, _⟩ => exact Nat.zero_add _

/-- Loading the upper half of the gathered products reads `Wout0` by `Win1`. -/
theorem read_top : (Memref.whole cc0_scratch11).view.readAt (Elt F) rTop.toLoadRect (fullC m) = topC m := by
  rw [View.readAt_rect]; funext j
  show fullC m (((View.whole cc0_scratch11).slice rTop).emb j) = _
  rw [emb_top11]; rfl
/-- Loading the lower half of the gathered products reads `Wout1` by `Win2`. -/
theorem read_bot : (Memref.whole cc0_scratch11).view.readAt (Elt F) rBot.toLoadRect (fullC m) = botC m := by
  rw [View.readAt_rect]; funext j
  show fullC m (((View.whole cc0_scratch11).slice rBot).emb j) = _
  rw [emb_bot11]; rfl

/-- The two stores of halves leave the stack of what they wrote, whatever was there. -/
theorem write_halves (f : (cc0_scratch8 : Ref sig .tc).ty.Contents (Elt F)) (a b : FVec F S256x256 .bf16) :
    ((Memref.whole cc0_scratch8).access rBot : View sig .tc _ _ _).write (Elt F) (((Memref.whole cc0_scratch8).access rTop : View sig .tc _ _ _).write (Elt F) f a Finset.univ) b Finset.univ = stack a b := by
  funext i
  show ((View.whole cc0_scratch8).slice rBot).write (Elt F) (((View.whole cc0_scratch8).slice rTop).write (Elt F) f a Finset.univ) b Finset.univ i = stack a b i
  unfold stack
  have hi : (i 0).val < 512 := (i 0).isLt
  by_cases h : (i 0).val < 256
  · rw [dif_pos h]
    have hn : i ∉ ((View.whole cc0_scratch8).slice rBot).setOn Finset.univ := by
      rw [View.setOn_univ]
      intro hm
      obtain ⟨j, -, e⟩ := Finset.mem_map.mp hm
      rw [emb_bot8] at e
      have := congrArg (fun i : S512x256.Idx => (i 0).val) e
      simp only at this; omega
    rw [View.write_of_not_mem _ _ _ hn]
    have he : i = ((View.whole cc0_scratch8).slice rTop).emb (ix2 ⟨(i 0).val, h⟩ (i 1) : S256x256.Idx) := by
      rw [emb_top8]; exact eq_ix2 i
    conv_lhs => rw [he]
    exact View.write_emb_of_mem _ _ (Finset.mem_univ _)
  · rw [dif_neg h]
    have he : i = ((View.whole cc0_scratch8).slice rBot).emb (ix2 ⟨(i 0).val - 256, by omega⟩ (i 1) : S256x256.Idx) := by
      rw [emb_bot8]
      refine (eq_ix2 i).trans ?_
      congr 1; exact Fin.ext (by show (i 0).val = 256 + ((i 0).val - 256); omega)
    conv_lhs => rw [he]
    exact View.write_emb_of_mem _ _ (Finset.mem_univ _)

end Cert.MlpProof

end
-- ==== Proof.Schedule.lean ====
/-
# The protocol

Every device has sixteen semaphores the proof counts: the runtime's barrier semaphore, one semaphore for each of the seven
fetches, and a send and a receive semaphore for each of the four exchanges. Each is used for one round:

* barrier of `c`: one unit from every device `d`, handing `c` the windows of `d`'s receiving buffers that `c` is to write;
* fetch: one copy, handing back the array and handing over the filled buffer;
* send semaphore of `c`: one departure per destination `d`, handing back the share of the source that was lent;
* receive semaphore of `c`: one arrival per sender `d`, handing over window `d` of the receiving buffer at its final contents.
-/
module

public import proofs.«01_k».proof.Proof.Contents
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.Tactic

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resource: duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev dCell (c : Dev nD) (q : DmaSem sig) : GSem nD τ sig := ((c : Thread nD τ), .dma q)

/-- The sixteen semaphores: the barrier, then the DMA semaphores 1 to 15. -/
abbrev csem (k : Fin 16) : SemLoc sig := if k.val = 0 then .reg barS else .dma k
abbrev kcell (ck : Dev nD × Fin 16) : GSem nD τ sig := ((ck.1 : Thread nD τ), csem ck.2)

/-! ## Held windows -/

/-- The elements of a window on device `c`, at share `q` and contents `f`. -/
def pts {sp : Space} {s : Shape} {e : EltTy} (v : Memref sig .tc sp s e) (c : Dev nD) (q : PosShare TreeShare) (f : Buf (Elt F) (v.view.loc (c : Thread nD τ))) : sProp 𝕄 :=
  v.view.loc (c : Thread nD τ) ↦[v.view.set]{q} f
/-- The same at some contents. -/
def ptsE {sp : Space} {s : Shape} {e : EltTy} (v : Memref sig .tc sp s e) (c : Dev nD) : sProp 𝕄 := iprop(∃ f, pts v c fullShare f)

instance pts_storable {sp : Space} {s : Shape} {e : EltTy} (v : Memref sig .tc sp s e) (c : Dev nD) (q) (f) :
    BI.Storable (upEmb : UEmb _ 𝕄) (pts (F := F) v c q f) := by unfold pts; infer_instance
instance ptsE_storable {sp : Space} {s : Shape} {e : EltTy} (v : Memref sig .tc sp s e) (c : Dev nD) :
    BI.Storable (upEmb : UEmb _ 𝕄) (ptsE (F := F) v c) := by unfold ptsE; infer_instance

/-- A whole buffer held is held as a window. -/
theorem pts_whole (b : Ref sig .tc) (c : Dev nD) (q : PosShare TreeShare) (f : Buf (Elt F) ((c : Thread nD τ).loc b)) :
    pts (Memref.whole b) c q f = (((c : Thread nD τ).loc b) ↦{q} f : sProp 𝕄) := by
  unfold pts; simp only [Memref.view_whole, View.set_whole]

/-- The share of a source that the copy to device `d` is lent. -/
def lent (d : Dev nD) : PosShare TreeShare := ShareLeaves.leaf 5 fullShare d

/-! ## The schedule -/

/-- The amounts: a window of 16 rows, a window of 4 rows. -/
def N16 : ℕ := wfRedM.view.dmaCredit
def N4 : ℕ := h3RedM.view.dmaCredit

/-- One duty's amount at DMA semaphore `q`. -/
def amtD (q : ℕ) : ℕ :=
  match q with
  | 1 => (Memref.whole cc0_scratch2).view.dmaCredit
  | 2 => (Memref.whole cc0_scratch3).view.dmaCredit
  | 3 => (Memref.whole cc0_scratch4).view.dmaCredit
  | 4 => (Memref.whole cc0_scratch5).view.dmaCredit
  | 5 => (Memref.whole cc0_scratch0).view.dmaCredit
  | 6 => (Memref.whole cc0_scratch1).view.dmaCredit
  | 7 => (Memref.whole cc0_scratch6).view.dmaCredit
  | 8 => N16 | 9 => N16 | 10 => N16 | 11 => N16
  | _ => N4

/-- A window of 16 rows pays something. -/
theorem N16_pos : 0 < N16 := View.dmaCredit_pos _ (by decide)
/-- A window of 4 rows pays something. -/
theorem N4_pos : 0 < N4 := View.dmaCredit_pos _ (by decide)
/-- Every payment is positive. -/
theorem amtD_pos (q : ℕ) : 0 < amtD q := by
  unfold amtD; split <;> first | exact N16_pos | exact N4_pos | exact View.dmaCredit_pos _ (by decide)

/-- What duty `d` of device `c`'s DMA semaphore `q` hands over. -/
def payD (c : Dev nD) (q : ℕ) (d : Dev nD) : sProp 𝕄 :=
  match q with
  | 1 => iprop(pts (Memref.whole cc0_scratch2) c fullShare (wout0C m c) ∗ pts (Memref.whole main_arg4) c fullShare (wout0C m c))
  | 2 => iprop(pts (Memref.whole cc0_scratch3) c fullShare (win1C m c) ∗ pts (Memref.whole main_arg2) c fullShare (win1C m c))
  | 3 => iprop(pts (Memref.whole cc0_scratch4) c fullShare (wout1C m c) ∗ pts (Memref.whole main_arg5) c fullShare (wout1C m c))
  | 4 => iprop(pts (Memref.whole cc0_scratch5) c fullShare (win2C m c) ∗ pts (Memref.whole main_arg3) c fullShare (win2C m c))
  | 5 => iprop(pts (Memref.whole cc0_scratch0) c fullShare (xC m c) ∗ pts (Memref.whole main_arg0) c fullShare (xC m c))
  | 6 => iprop(pts (Memref.whole cc0_scratch1) c fullShare (win0C m c) ∗ pts (Memref.whole main_arg1) c fullShare (win0C m c))
  | 7 => iprop(pts (Memref.whole cc0_scratch6) c fullShare (wout2C m c) ∗ pts (Memref.whole main_arg6) c fullShare (wout2C m c))
  | 8 => pts (wfSrcM d) c fullShare (wfSrcC m c)
  | 9 => pts (wfSlotM d) c fullShare (slotsC m c)
  | 10 => pts wfRedM c (lent d) (redC m c)
  | 11 => pts (wfFullM d) c fullShare (fullC m)
  | 12 => pts (p1M d) c fullShare (p1C m c)
  | 13 => pts (l1SlotM d) c fullShare (l1C m c)
  | 14 => pts h3RedM c (lent d) (h3redC m c)
  | 15 => pts (h3FullM d) c fullShare (h3C m)
  | _ => iprop(emp)

/-- What device `d` hands device `c` at the barrier: window `c` of each of its receiving buffers. -/
def payB (c d : Dev nD) : sProp 𝕄 := iprop(ptsE (wfSlotM c) d ∗ ptsE (wfFullM c) d ∗ ptsE (l1SlotM c) d ∗ ptsE (h3FullM c) d)

instance payD_storable (c : Dev nD) (q : ℕ) (d : Dev nD) : BI.Storable (upEmb : UEmb _ 𝕄) (payD (F := F) m c q d) := by
  unfold payD; split <;> infer_instance
instance payB_storable (c d : Dev nD) : BI.Storable (upEmb : UEmb _ 𝕄) (payB (F := F) c d) := by
  unfold payB; infer_instance

/-- Who pays a semaphore: all devices the barrier and the exchanges, one copy a fetch. -/
def dutiesOf (sm : SemLoc sig) : Finset (Dev nD) :=
  match sm with
  | .reg _ => Finset.univ
  | .dma q => if q.val = 0 then ∅ else if q.val < 8 then {(0 : Fin 32)} else Finset.univ

/-- The schedule: one round, round 0. -/
def Rd : Rounds.Schedule (GSem nD τ sig) (Dev nD) 𝕄 where
  duties g r := if r = 0 ∧ g.1.2 = .tc then dutiesOf g.2 else ∅
  unitless _ := False
  amount g _ _ := match g.2 with
    | .reg _ => 1
    | .dma q => amtD q.val
  payload g _ d := match g.2 with
    | .reg _ => payB g.1.1 d
    | .dma q => payD m g.1.1 q.val d
  amount_pos g _ _ _ := by
    rcases g with ⟨t, s⟩
    cases s with
    | reg _ => exact Nat.one_pos
    | dma q => exact amtD_pos _

instance Rd_payload_storable (g : GSem nD τ sig) (r : ℕ) (d : Dev nD) :
    BI.Storable (upEmb : UEmb _ 𝕄) ((Rd (F := F) m).payload g r d) := by
  rcases g with ⟨t, s⟩
  cases s with
  | reg _ => exact payB_storable _ _
  | dma q => exact payD_storable m _ _ _

/-- The payments of round 0, by the kind of the semaphore. -/
theorem duties_tc (c : Dev nD) (sm : SemLoc sig) : (Rd (F := F) m).duties ((c : Thread nD τ), sm) 0 = dutiesOf sm := by
  simp only [Rd]; exact if_pos ⟨trivial, trivial⟩
/-- No later round has payments. -/
theorem duties_later (g : GSem nD τ sig) : ∀ r, 1 ≤ r → (Rd (F := F) m).duties g r = ∅ := fun r hr => if_neg fun h => by omega
/-- An exchange's semaphore is paid once for every device. -/
theorem duties_all (c : Dev nD) (q : DmaSem sig) (hq : 8 ≤ q.val) : (Rd (F := F) m).duties (dCell c q) 0 = Finset.univ := by
  rw [duties_tc]; unfold dutiesOf; dsimp only; rw [if_neg (by omega), if_neg (by omega)]
/-- A barrier semaphore is paid once by every device. -/
theorem duties_bar (c : Dev nD) : (Rd (F := F) m).duties (barCell c) 0 = Finset.univ := duties_tc m c _
/-- A fetch's semaphore is paid once. -/
theorem duties_in (c : Dev nD) (q : DmaSem sig) (h0 : q.val ≠ 0) (hq : q.val < 8) : (Rd (F := F) m).duties (dCell c q) 0 = {(0 : Fin 32)} := by
  rw [duties_tc]; unfold dutiesOf; dsimp only; rw [if_neg h0, if_pos hq]

/-- An exchange's semaphore awaits 32 payments. -/
theorem expect_all (c : Dev nD) (q : DmaSem sig) (hq : 8 ≤ q.val) : (Rd (F := F) m).expect (dCell c q) 0 = 32 * amtD q.val := by
  unfold Schedule.expect Schedule.amountOf
  rw [duties_all m c q hq, Finset.sum_congr rfl fun d _ => show (Rd (F := F) m).amount (dCell c q) 0 d = amtD q.val from rfl, Finset.sum_const]
  rfl
/-- A barrier semaphore awaits 32 units. -/
theorem expect_bar (c : Dev nD) : (Rd (F := F) m).expect (barCell c) 0 = 32 := by
  unfold Schedule.expect Schedule.amountOf
  rw [duties_bar, Finset.sum_congr rfl fun d _ => show (Rd (F := F) m).amount (barCell c) 0 d = 1 from rfl, Finset.sum_const]
  rfl
/-- A fetch's semaphore awaits one payment. -/
theorem expect_in (c : Dev nD) (q : DmaSem sig) (h0 : q.val ≠ 0) (hq : q.val < 8) : (Rd (F := F) m).expect (dCell c q) 0 = amtD q.val := by
  unfold Schedule.expect Schedule.amountOf
  rw [duties_in m c q h0 hq, Finset.sum_singleton]; rfl

/-! ## What a device owes, and the levels -/

/-- The units owed to the cells of a list of devices. -/
def owedL (cell : Dev nD → GSem nD τ sig) (N : ℕ) : List (Dev nD) → CellTallies nD τ sig Unit
  | [] => 0
  | d :: l => owedL cell N l + tallyAt (cell d) () N

abbrev owAg3 (l : List (Dev nD)) : CellTallies nD τ sig Unit := owedL (dCell · ag3R) N4 l
abbrev owWfag (l : List (Dev nD)) : CellTallies nD τ sig Unit := owedL (dCell · wfagR) N16 l
abbrev owL1 (l : List (Dev nD)) : CellTallies nD τ sig Unit := owedL (dCell · l1R) N4 l
abbrev owWfrs (l : List (Dev nD)) : CellTallies nD τ sig Unit := owedL (dCell · wfrsR) N16 l
abbrev owBar (l : List (Dev nD)) : CellTallies nD τ sig Unit := owedL barCell 1 l

/-- What every device owes at launch: a unit to every barrier, a window to every device in each exchange. -/
def O₀ : CellTallies nD τ sig Unit := owAg3 devs + owWfag devs + owL1 devs + owWfrs devs + owBar devs

def L (g : GSem nD τ sig) : Finset Unit := if g.1.2 = .tc then {()} else ∅
/-- The barriers come first, then the first two exchanges' receives, the weights' gather, the third layer's gather. -/
def lv (g : GSem nD τ sig) (_ : Unit) : ℕ :=
  match g.2 with
  | .reg _ => 1
  | .dma q => if q.val = 9 ∨ q.val = 13 then 2 else if q.val = 11 then 3 else if q.val = 15 then 4 else 0

/-- Only the devices' main threads have semaphores with levels. -/
theorem L_of_ne (g : GSem nD τ sig) (h : g.1.2 ≠ .tc) : L g = ∅ := if_neg h
/-- Each semaphore of a main thread has one level. -/
theorem L_tc (c : Dev nD) (sm : SemLoc sig) : L ((c : Thread nD τ), sm) = {()} := if_pos rfl

/-- All that is owed is owed to TensorCore cells of a level above `b`. -/
def Above (b : ℕ) (O : CellTallies nD τ sig Unit) : Prop := ∀ g u, 0 < O g u → g.1.2 = .tc ∧ b < lv g u

/-- Owing nothing is above every level. -/
theorem above_zero (b : ℕ) : Above b 0 := fun g u h => absurd h (Nat.lt_irrefl 0)
/-- Two debts above level `b` are so together. -/
theorem above_add {b : ℕ} {O O' : CellTallies nD τ sig Unit} (h : Above b O) (h' : Above b O') : Above b (O + O') := fun g u hp => by
  rw [Pi.add_apply, Finsupp.add_apply] at hp
  rcases Nat.eq_zero_or_pos (O g u) with h0 | h0
  · exact h' g u (by omega)
  · exact h g u h0
/-- A debt to a list of semaphores is above level `b` when each of them is. -/
theorem above_owedL {b : ℕ} (cell : Dev nD → GSem nD τ sig) (N : ℕ) (hc : ∀ d u, (cell d).1.2 = .tc ∧ b < lv (cell d) u) (l : List (Dev nD)) : Above b (owedL cell N l) := by
  induction l with
  | nil => exact above_zero b
  | cons d l ih =>
    refine above_add ih fun g u hp => ?_
    rw [tallyAt_apply] at hp
    by_cases h : g = cell d ∧ u = ()
    · rw [h.1]; exact hc d u
    · rw [if_neg h] at hp; exact absurd hp (Nat.lt_irrefl 0)

/-- The debt of the third layer's exchange is at level 4. -/
theorem above_ag3 {b : ℕ} (hb : b < 4) (l : List (Dev nD)) : Above b (owAg3 l) := above_owedL _ _ (fun d u => ⟨rfl, hb⟩) l
/-- The debt of the gathering of the weight products is at level 3. -/
theorem above_wfag {b : ℕ} (hb : b < 3) (l : List (Dev nD)) : Above b (owWfag l) := above_owedL _ _ (fun d u => ⟨rfl, hb⟩) l
/-- The debt of the first layer's exchange is at level 2. -/
theorem above_l1 {b : ℕ} (hb : b < 2) (l : List (Dev nD)) : Above b (owL1 l) := above_owedL _ _ (fun d u => ⟨rfl, hb⟩) l
/-- The debt of the exchange of the weight products is at level 2. -/
theorem above_wfrs {b : ℕ} (hb : b < 2) (l : List (Dev nD)) : Above b (owWfrs l) := above_owedL _ _ (fun d u => ⟨rfl, hb⟩) l
/-- The debt of the barrier's signals is at level 1. -/
theorem above_bar {b : ℕ} (hb : b < 1) (l : List (Dev nD)) : Above b (owBar l) := above_owedL _ _ (fun d u => ⟨rfl, hb⟩) l

/-- A device may wait on a semaphore whose level is below all it owes. -/
theorem mayWait_of_above (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- What a debt to a list of devices owes one of their semaphores. -/
theorem owedL_at (cell : Dev nD → GSem nD τ sig) (hinj : Function.Injective cell) (N : ℕ) (c : Dev nD) :
    ∀ l : List (Dev nD), l.Nodup → owedL cell N l (cell c) () = if c ∈ l then N else 0
  | [], _ => by simp [owedL]
  | d :: l, hl => by
    have hn := List.nodup_cons.mp hl
    unfold owedL
    rw [Pi.add_apply, Finsupp.add_apply, owedL_at cell hinj N c l hn.2, tallyAt_apply]
    by_cases h : c = d
    · subst h; rw [if_neg hn.1, if_pos ⟨rfl, rfl⟩, if_pos (List.mem_cons_self), Nat.zero_add]
    · have hc : ¬ (cell c = cell d ∧ () = ()) := fun h' => h (hinj h'.1)
      rw [if_neg hc]
      simp only [List.mem_cons, h, false_or, Nat.add_zero]
/-- It owes nothing elsewhere. -/
theorem owedL_off (cell : Dev nD → GSem nD τ sig) (N : ℕ) (g : GSem nD τ sig) (hg : ∀ d, g ≠ cell d) (u : Unit) :
    ∀ l : List (Dev nD), owedL cell N l g u = 0
  | [] => rfl
  | d :: l => by
    unfold owedL
    rw [Pi.add_apply, Finsupp.add_apply, owedL_off cell N g hg u l, tallyAt_apply, if_neg (fun h => hg d h.1)]

end Cert.MlpProof

end
-- ==== Proof.Phases.lean ====
/-
# The rules for the loops

One rule per kind of loop over the devices: signalling every barrier, sending a window to every device, awaiting the 32 arrivals
or departures of a semaphore; and the two rules for a fetch and its wait.
-/
module

public import proofs.«01_k».proof.Proof.Schedule

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev WP (c : Dev nD) (Q : PUnit → sProp 𝕄) (p : PU F) : sProp 𝕄 := wp frame (wpE (defs₀ (F := F)) 𝒱₀ (c : Thread nD τ) none) Set.univ p Q

/-- What device `c` owes, whatever waits are recorded with it. -/
def ow (c : Dev nD) (O : CellTallies nD τ sig Unit) : sProp 𝕄 := iprop(∃ W, owes (c : Thread nD τ) O W)

/-! ## The records of all cells -/

section
variable (K : Dev nD × Fin 16 → ℕ)

/-- Every cell's invariant, and that every cell's round 0 is open. -/
def records : sProp 𝕄 :=
  iprop((bigSep Finset.univ fun ck : Dev nD × Fin 16 => cellInv ER (Rd m) (K ck) (kcell ck))
    ∗ bigSep Finset.univ fun ck : Dev nD × Fin 16 => reached ER (kcell ck) 0)

instance records_persistent : BI.Persistent (records (F := F) m K) := by unfold records; infer_instance

/-- A semaphore other than the barrier's, by its number. -/
theorem kcell_d (c : Dev nD) (q : Fin 16) (h : q.val ≠ 0) : kcell (c, q) = dCell c q := by
  show ((c : Thread nD τ), csem q) = _
  unfold csem; rw [if_neg h]

/-- One member of a family over everything. -/
theorem bigSep_at {I : Type} [Fintype I] [DecidableEq I] (Φ : I → sProp 𝕄) (i : I) : bigSep Finset.univ Φ ⊢ Φ i := bigSep_elim (Finset.mem_univ i)

/-- The records hold each semaphore's invariant, -/
theorem rec_inv (ck : Dev nD × Fin 16) : records m K ⊢ (cellInv ER (Rd m) (K ck) (kcell ck) : sProp 𝕄) := by
  unfold records
  iintro ⟨H, -⟩
  iapply (bigSep_at (fun ck : Dev nD × Fin 16 => (cellInv ER (Rd m) (K ck) (kcell ck) : sProp 𝕄)) ck); iexact H
/-- and that its round 0 is open. -/
theorem rec_reached (ck : Dev nD × Fin 16) : records m K ⊢ (reached ER (kcell ck) 0 : sProp 𝕄) := by
  unfold records
  iintro ⟨-, H⟩
  iapply (bigSep_at (fun ck : Dev nD × Fin 16 => (reached ER (kcell ck) 0 : sProp 𝕄)) ck); iexact H
/-- The invariant of a transfer semaphore. -/
theorem inv_d (c : Dev nD) (q : Fin 16) (h : q.val ≠ 0) : records m K ⊢ (cellInv ER (Rd m) (K (c, q)) (dCell c q) : sProp 𝕄) := by
  rw [← kcell_d c q h]; exact rec_inv m K (c, q)
/-- A transfer semaphore's round 0 is open. -/
theorem reached_d (c : Dev nD) (q : Fin 16) (h : q.val ≠ 0) : records m K ⊢ (reached ER (dCell c q) 0 : sProp 𝕄) := by
  rw [← kcell_d c q h]; exact rec_reached m K (c, q)
/-- The invariant of a barrier semaphore. -/
theorem inv_bar (c : Dev nD) : records m K ⊢ (cellInv ER (Rd m) (K (c, 0)) (barCell c) : sProp 𝕄) := rec_inv m K (c, 0)
/-- A barrier semaphore's round 0 is open. -/
theorem reached_bar (c : Dev nD) : records m K ⊢ (reached ER (barCell c) 0 : sProp 𝕄) := rec_reached m K (c, 0)

/-! ## Loops -/

/-- A loop, by a statement about the elements left. -/
theorem wp_forOps (c : Dev nD) (Q : PUnit → sProp 𝕄) (R : sProp 𝕄) [BI.Persistent R] (P : List (Dev nD) → sProp 𝕄) (f : Dev nD → Eff F PUnit)
    (h : ∀ d l (k : PUnit → PU F), iprop(R ∗ P (d :: l)) ⊢ iprop((P l -∗ WP c Q (k ⟨⟩)) -∗ WP c Q (.op (f d) k))) (k : PU F) :
    ∀ l : List (Dev nD), iprop(R ∗ P l) ⊢ iprop((P [] -∗ WP c Q k) -∗ WP c Q (forOps l f k))
  | [] => by
    iintro ⟨-, HP⟩ Hk
    unfold forOps
    iapply Hk; iexact HP
  | d :: l => by
    iintro ⟨#HR, HP⟩ Hk
    unfold forOps
    iapply (h d l fun _ => forOps l f k) $$ [HP]
    · isplitr; · iexact HR
      iexact HP
    iintro HP
    iapply (wp_forOps c Q R P f h k l) $$ [HP]
    · isplitr; · iexact HR
      iexact HP
    iexact Hk

/-! ## The barrier's signals -/

/-- A signal to device `d` pays one unit and hands over the windows that `d` is to write. -/
theorem signal_step (c d : Dev nD) (Q : PUnit → sProp 𝕄) (O : CellTallies nD τ sig Unit) (k : PUnit → PU F) :
    iprop(records m K ∗ (payB d c ∗ dutyTok ER (barCell d) 0 c) ∗ ow c (O + tallyAt (barCell d) () 1))
      ⊢ iprop((ow c O -∗ WP c Q (k ⟨⟩)) -∗ WP c Q (.op (signalE d) k)) := by
  unfold ow
  iintro ⟨#HR, ⟨Hp, Ht⟩, ⟨%W, HO⟩⟩ Hk
  iapply (Rounds.wp_signal 𝒱₀ ER (Rd m) (c : Thread nD τ) none (dst := (d : Thread nD τ)) (κ := K (d, 0)) (d := c)
      (by rw [duties_bar]; exact Finset.mem_univ _) (show (Rd (F := F) m).amount (barCell d) 0 c = 1 from rfl) () O rfl) $$ [HO Ht Hp]
  · isplitr; · iapply (inv_bar m K d); iexact HR
    isplitl [HO]; · iexact HO
    isplitl [Ht]; · iexact Ht
    isplitl [Hp]; · iapply (Entails.of_eq (show payB d c = (Rd m).payload (barCell d) 0 c from rfl)); iexact Hp
    iapply (reached_bar m K d); iexact HR
  iintro HO
  iapply Hk
  iexists W; iexact HO

/-- The loop of 32 signals pays all that the device owes the barriers. -/
theorem signal_all (c : Dev nD) (Q : PUnit → sProp 𝕄) (X : CellTallies nD τ sig Unit) (k : PU F) (l : List (Dev nD)) :
    iprop(records m K ∗ bigSepL l (fun d => iprop(payB d c ∗ dutyTok ER (barCell d) 0 c)) ∗ ow c (X + owBar l))
      ⊢ iprop((ow c X -∗ WP c Q k) -∗ WP c Q (forOps l signalE k)) := by
  have h := wp_forOps c Q (records m K) (fun l => iprop(bigSepL l (fun d => iprop(payB d c ∗ dutyTok ER (barCell d) 0 c)) ∗ ow c (X + owBar l))) signalE (by
    intro d l k
    iintro ⟨#HR, Hl, HO⟩ Hk
    ihave Hl := (Entails.of_eq (bigSepL_cons' d l fun d => iprop(payB d c ∗ dutyTok ER (barCell d) 0 c))) $$ Hl
    rw [show X + owBar (d :: l) = (X + owBar l) + tallyAt (barCell d) () 1 from (add_assoc _ _ _).symm]
    icases Hl with ⟨Hd, Hl⟩
    iapply (signal_step m K c d Q (X + owBar l) k) $$ [Hd HO]
    · isplitr; · iexact HR
      isplitl [Hd]; · iexact Hd
      iexact HO
    iintro HO
    iapply Hk
    isplitl [Hl]; · iexact Hl
    iexact HO) k l
  iintro ⟨#HR, Hl, HO⟩ Hk
  iapply h $$ [Hl HO]
  · isplitr; · iexact HR
    isplitl [Hl]; · iexact Hl
    iexact HO
  iintro ⟨-, HO⟩
  iapply Hk
  rw [show X + owBar [] = X from add_zero X]
  iexact HO

/-! ## Sends -/

/-- What one send needs: the source, the window of the destination, the two duties' tokens. -/
def sendP {s : Shape} {e : EltTy} (c d : Dev nD) (sS sR : DmaSem sig) (src dst : Memref sig .tc .vmem s e) (q : PosShare TreeShare) (fs : Buf (Elt F) (src.view.loc (c : Thread nD τ))) : sProp 𝕄 :=
  iprop(pts src c q fs ∗ ptsE dst d ∗ dutyTok ER (dCell c sS) 0 d ∗ dutyTok ER (dCell d sR) 0 c)

/-- A copy to device `d` lends the source, fills the window on `d` and pays both semaphores. -/
theorem send_step {s : Shape} {e : EltTy} (c d : Dev nD) (sS sR : DmaSem sig) (hS : 8 ≤ sS.val) (hR : 8 ≤ sR.val) (N : ℕ) (hSN : amtD sS.val = N) (hRN : amtD sR.val = N)
    (src dst dst' : Memref sig .tc .vmem s e) (hd : dst = dst') (hN : dst'.view.dmaCredit = N) (q : PosShare TreeShare) (fs : Buf (Elt F) (src.view.loc (c : Thread nD τ)))
    (h₁ : pts src c q fs ⊢ payD m c sS.val d)
    (h₂ : ∀ fd, pts dst' d fullShare (dst'.view.write (Elt F) fd (src.view.read (Elt F) fs) Finset.univ) ⊢ payD m d sR.val c)
    {hsc : dst.view.ref.isScScratch = false} {hsrc : src.view.WordExact} {hdst : dst.view.WordExact}
    {hsem : DmaTarget.Typed .vmem (.dma sR) (.remote (Dev.tc d : Thread nD τ) dst (.dma sS) hsc)}
    (Q : PUnit → sProp 𝕄) (O : CellTallies nD τ sig Unit) (k : PUnit → PU F) :
    iprop(records m K ∗ sendP c d sS sR src dst' q fs ∗ ow c (O + tallyAt (dCell d sR) () N))
      ⊢ iprop(((cred (tallyAt (dCell c sS) () N) ∗ ow c O) -∗ WP c Q (k ⟨⟩))
        -∗ WP c Q (.op (.enqueueDma src (.remote (Dev.tc d) dst (.dma sS) hsc) (.dma sR) hsrc hdst hsem) k)) := by
  subst hd
  unfold ow sendP ptsE pts
  iintro ⟨#HR, ⟨Hs, ⟨%fd, Hd⟩, HtS, HtR⟩, ⟨%W, HO⟩⟩ Hk
  iapply (Rounds.wp_send_pointsTo 𝒱₀ ER (Rd m) (c : Thread nD τ) none (κ₁ := K (c, sS)) (κ₂ := K (d, sR)) (r₁ := 0) (r₂ := 0) (d₁ := d) (d₂ := c) (q := q) (fs := fs) (fd := fd)
      (by rw [duties_all m c sS hS]; exact Finset.mem_univ _) (by rw [duties_all m d sR hR]; exact Finset.mem_univ _) () () N (show dst.view.amount (.dma sR) = N from hN) (show (Rd m).amount (dCell c sS) 0 d = N from hSN) (show (Rd m).amount (dCell d sR) 0 c = N from hRN) O rfl (W := W)
      (show pts src c q fs ⊢ (Rd m).payload (dCell c sS) 0 d from h₁) (show pts dst d fullShare (dst.view.write (Elt F) fd (src.view.read (Elt F) fs) Finset.univ) ⊢ (Rd m).payload (dCell d sR) 0 c from h₂ fd)) $$ [Hs Hd HO HtS HtR]
  · isplitr; · iapply (inv_d m K c sS (by omega)); iexact HR
    isplitr; · iapply (inv_d m K d sR (by omega)); iexact HR
    isplitl [Hs]; · iexact Hs
    isplitl [Hd]; · iexact Hd
    isplitl [HO]; · iexact HO
    isplitl [HtS]; · iexact HtS
    isplitr; · iapply (reached_d m K c sS (by omega)); iexact HR
    isplitl [HtR]; · iexact HtR
    iapply (reached_d m K d sR (by omega)); iexact HR
  iintro ⟨Hc, HO⟩
  iapply Hk
  isplitl [Hc]; · iexact Hc
  iexists W; iexact HO

/-- No credit is free. -/
theorem cred_zero_intro (g : GSem nD τ sig) : (emp : sProp 𝕄) ⊢ cred (tallyAt g () 0) := by
  rw [tallyAt_zero]; exact Entails.of_eq cred_zero.symm

/-- Credits at one semaphore add up. -/
theorem cred_merge (g : GSem nD τ sig) (a b : ℕ) : iprop(cred (tallyAt g () a) ∗ cred (tallyAt g () b)) ⊢ (cred (tallyAt g () (a + b)) : sProp 𝕄) := by
  rw [← tallyAt_add]; exact (cred_add _ _).2
/-- A credit splits into two. -/
theorem cred_split (g : GSem nD τ sig) (a b : ℕ) : (cred (tallyAt g () (a + b)) : sProp 𝕄) ⊢ iprop(cred (tallyAt g () a) ∗ cred (tallyAt g () b)) := by
  rw [← tallyAt_add]; exact (cred_add _ _).1

/-- A loop of 32 copies pays all that the device owes in that exchange, and leaves the credit of 32 departures. -/
theorem send_all (c : Dev nD) (sS sR : DmaSem sig) (N : ℕ) (f : Dev nD → Eff F PUnit) (E : Dev nD → sProp 𝕄) (Q : PUnit → sProp 𝕄) (X : CellTallies nD τ sig Unit)
    (hstep : ∀ d O (k : PUnit → PU F), iprop(records m K ∗ E d ∗ ow c (O + tallyAt (dCell d sR) () N))
      ⊢ iprop(((cred (tallyAt (dCell c sS) () N) ∗ ow c O) -∗ WP c Q (k ⟨⟩)) -∗ WP c Q (.op (f d) k))) (k : PU F) :
    iprop(records m K ∗ bigSepL devs E ∗ ow c (X + owedL (dCell · sR) N devs))
      ⊢ iprop(((cred (tallyAt (dCell c sS) () (N * 32)) ∗ ow c X) -∗ WP c Q k) -∗ WP c Q (forOps devs f k)) := by
  have h := wp_forOps c Q (records m K) (fun l => iprop(bigSepL l E ∗ (∃ n : ℕ, ⌜n + l.length = 32⌝ ∗ cred (tallyAt (dCell c sS) () (N * n))) ∗ ow c (X + owedL (dCell · sR) N l))) f (by
    intro d l k
    iintro ⟨#HR, Hl, ⟨%n, %hn, Hc⟩, HO⟩ Hk
    ihave Hl := (Entails.of_eq (bigSepL_cons' d l E)) $$ Hl
    rw [show X + owedL (dCell · sR) N (d :: l) = (X + owedL (dCell · sR) N l) + tallyAt (dCell d sR) () N from (add_assoc _ _ _).symm]
    icases Hl with ⟨Hd, Hl⟩
    iapply (hstep d (X + owedL (dCell · sR) N l) k) $$ [Hd HO]
    · isplitr; · iexact HR
      isplitl [Hd]; · iexact Hd
      iexact HO
    iintro ⟨Hc', HO⟩
    iapply Hk
    isplitl [Hl]; · iexact Hl
    isplitl [Hc Hc']
    · iexists (n + 1)
      isplitr; · ipureintro; rw [List.length_cons] at hn; omega
      rw [Nat.mul_succ]
      iapply (cred_merge (F := F) (dCell c sS) (N * n) N)
      isplitl [Hc] <;> iassumption
    iexact HO) k devs
  iintro ⟨#HR, Hl, HO⟩ Hk
  iapply h $$ [Hl HO]
  · isplitr; · iexact HR
    isplitl [Hl]; · iexact Hl
    isplitr
    · iexists 0
      isplitr; · ipureintro; rw [List.length_finRange]
      rw [Nat.mul_zero]
      iapply (cred_zero_intro (F := F) (dCell c sS)); iempintro
    iexact HO
  iintro ⟨-, ⟨%n, %hn, Hc⟩, HO⟩
  iapply Hk
  rw [show X + owedL (dCell · sR) N [] = X from add_zero X, show n = 32 from hn]
  isplitl [Hc] <;> iassumption

/-! ## Waits -/

/-- A semaphore's round with `n` waits for `N` left. -/
def WSt (c : Dev nD) (sm : SemLoc sig) (N : ℕ) : ℕ → sProp 𝕄
  | 0 => iprop(atPos ER ((c : Thread nD τ), sm) 1 ∅ 0 ∗ bigSep ((Rd (F := F) m).duties ((c : Thread nD τ), sm) 0) (fun d => (Rd m).payload ((c : Thread nD τ), sm) 0 d))
  | n + 1 => iprop(∃ (T : Finset (Dev nD)) (a : ℕ), ⌜T ⊆ (Rd (F := F) m).duties ((c : Thread nD τ), sm) 0 ∧ a + N * (n + 1) = (Rd (F := F) m).expect ((c : Thread nD τ), sm) 0⌝
      ∗ cred (tallyAt ((c : Thread nD τ), sm) () (N * (n + 1))) ∗ atPos ER ((c : Thread nD τ), sm) 0 T a
      ∗ bigSep T (fun d => (Rd m).payload ((c : Thread nD τ), sm) 0 d))

/-- A family over a part, and one over the rest, make the family over the whole. -/
theorem grow {T S : Finset (Dev nD)} (h : T ⊆ S) (Φ : Dev nD → sProp 𝕄) : iprop(bigSep T Φ ∗ bigSep (S \ T) Φ) ⊢ bigSep S Φ :=
  Entails.of_eq (BI.bigSep_sdiff_split h).symm

/-- One wait for one amount: what has arrived by then grows, and after the last all payloads are there. -/
theorem wait_step (c : Dev nD) (sm : SemLoc sig) (N κ n : ℕ) (O : CellTallies nD τ sig Unit) (hO : Above (lv ((c : Thread nD τ), sm) ()) O) (Q : PUnit → sProp 𝕄)
    {w : Eff F PUnit} (hw : ∀ Kt : PUnit → sProp 𝕄, wpE (defs₀ (F := F)) 𝒱₀ (c : Thread nD τ) none Set.univ w Kt = waitSpec (c : Thread nD τ) Set.univ sm N Kt) (k : PUnit → PU F) :
    iprop(cellInv ER (Rd m) κ ((c : Thread nD τ), sm) ∗ levAts L lv ∗ ow c O ∗ WSt m c sm N (n + 1))
      ⊢ iprop(((ow c O ∗ WSt m c sm N n) -∗ WP c Q (k ⟨⟩)) -∗ WP c Q (.op w k)) := by
  unfold ow
  cases n with
  | zero =>
    iintro ⟨#HI, #Hlev, ⟨%W, HO⟩, Hst⟩ Hk
    unfold WSt
    icases Hst with ⟨%T, %a, %hT, Hc, Hat, Hp⟩
    rw [Nat.zero_add, Nat.mul_one]
    iapply (Rounds.wp_wait_rest_token 𝒱₀ ER (Rd m) (c : Thread nD τ) none (κ := κ) hw (Set.mem_univ _) () (O := O) (W := W) (R := 0) (m := a) (T := T)
      (by have := hT.2; rw [Nat.zero_add, Nat.mul_one] at this; exact this)) $$ [Hc HO Hat]
    · isplitr; · iexact HI
      isplitl [Hc]; · iexact Hc
      isplitl [HO]; · iexact HO
      isplitr; · iapply (mayWait_of_above c sm O hO); iexact Hlev
      iexact Hat
    iintro ⟨HO, Hat, -, Hp'⟩
    iapply Hk
    isplitl [HO]; · iexists _; iexact HO
    isplitl [Hat]; · iexact Hat
    iapply (grow hT.1 _)
    isplitl [Hp] <;> iassumption
  | succ n =>
    iintro ⟨#HI, #Hlev, ⟨%W, HO⟩, Hst⟩ Hk
    unfold WSt
    icases Hst with ⟨%T, %a, %hT, Hc, Hat, Hp⟩
    have e : N * (n + 1 + 1) = N * (n + 1) + N := Nat.mul_succ _ _
    rw [e]
    ihave Hcc := (cred_split (F := F) ((c : Thread nD τ), sm) (N * (n + 1)) N) $$ Hc
    icases Hcc with ⟨Hc, Hc'⟩
    iapply (Rounds.wp_wait 𝒱₀ ER (Rd m) (c : Thread nD τ) none (κ := κ) hw (Set.mem_univ _) (cr := Finsupp.single () N) (O := O) (W := W) {(sm, ())} (R := 0) (m := a) (T := T)
      (Util.total_single _ _) (image_single_subset sm () N)) $$ [Hc' HO Hat]
    · isplitr; · iexact HI
      isplitl [Hc']; · iexact Hc'
      isplitl [HO]; · iexact HO
      isplitr; · iapply (mayWait_of_above c sm O hO); iexact Hlev
      iexact Hat
    iintro %S ⟨%hS, HO, Hat, Hp'⟩
    iapply Hk
    isplitl [HO]; · iexists _; iexact HO
    iexists S, (a + N)
    isplitr; · ipureintro; exact ⟨hS.2.1, by have := hT.2; omega⟩
    isplitl [Hc]; · iexact Hc
    isplitl [Hat]; · iexact Hat
    iapply (grow hS.1 _)
    isplitl [Hp] <;> iassumption

/-- The state before the first of 32 waits. -/
theorem WSt_start (c : Dev nD) (q : DmaSem sig) (hq : 8 ≤ q.val) (N : ℕ) (hN : amtD q.val = N) :
    iprop(cred (tallyAt (dCell c q) () (N * 32)) ∗ atPos ER (dCell c q) 0 ∅ 0) ⊢ WSt m c (.dma q) N 32 := by
  unfold WSt
  iintro ⟨Hc, Hat⟩
  iexists ∅, 0
  isplitr; · ipureintro; exact ⟨Finset.empty_subset _, by rw [expect_all m c q hq, hN]; show 0 + N * 32 = 32 * N; omega⟩
  isplitl [Hc]; · iexact Hc
  isplitl [Hat]; · iexact Hat
  rw [bigSep_empty]; iempintro

/-- The state after the last of 32 waits: the round is over and all payloads are held. -/
theorem WSt_done (c : Dev nD) (q : DmaSem sig) (hq : 8 ≤ q.val) (N : ℕ) :
    WSt m c (.dma q) N 0 ⊢ iprop(atPos ER (dCell c q) 1 ∅ 0 ∗ bigSep Finset.univ (fun d => payD m c q.val d)) := by
  unfold WSt
  rw [duties_all m c q hq]
  exact BI.Entails.refl _

/-- A semaphore whose round is over closes: its counter is zero. -/
theorem close_d (c : Dev nD) (q : DmaSem sig) (h0 : q.val ≠ 0) : iprop(records m K ∗ atPos ER (dCell c q) 1 ∅ 0) ⊢ (|={Set.univ}=> semVal (dCell c q) 0 : sProp 𝕄) := by
  iintro ⟨#HR, Hat⟩
  iapply (Rounds.cell_close ER (Rd m) (Set.mem_univ (K (c, q))) (fun h => h) (R := 1) (duties_later m (dCell c q)))
  isplitr; · iapply (inv_d m K c q h0); iexact HR
  iexact Hat

/-- A loop of 32 waits ends with all payloads and the semaphore at zero. -/
theorem wait_all (c : Dev nD) (q : DmaSem sig) (hq : 8 ≤ q.val) (N : ℕ) (hN : amtD q.val = N) (O : CellTallies nD τ sig Unit) (hO : Above (lv (dCell c q) ()) O) (Q : PUnit → sProp 𝕄)
    (f : Dev nD → Eff F PUnit) (hw : ∀ d, ∀ Kt : PUnit → sProp 𝕄, wpE (defs₀ (F := F)) 𝒱₀ (c : Thread nD τ) none Set.univ (f d) Kt = waitSpec (c : Thread nD τ) Set.univ (.dma q) N Kt) (k : PU F) :
    iprop(records m K ∗ levAts L lv ∗ ow c O ∗ cred (tallyAt (dCell c q) () (N * 32)) ∗ atPos ER (dCell c q) 0 ∅ 0)
      ⊢ iprop(((ow c O ∗ semVal (dCell c q) 0 ∗ bigSep Finset.univ (fun d => payD m c q.val d)) -∗ WP c Q k) -∗ WP c Q (forOps devs f k)) := by
  have h := wp_forOps c Q iprop(records m K ∗ levAts L lv) (fun l => iprop(ow c O ∗ WSt m c (.dma q) N l.length)) f (by
    intro d l k
    iintro ⟨⟨#HR, #Hlev⟩, HO, Hst⟩ Hk
    rw [List.length_cons]
    iapply (wait_step m c (.dma q) N (K (c, q)) l.length O hO Q (hw d) k) $$ [HO Hst]
    · isplitr; · iapply (inv_d m K c q (by omega)); iexact HR
      isplitr; · iexact Hlev
      isplitl [HO]; · iexact HO
      iexact Hst
    iintro ⟨HO, Hst⟩
    iapply Hk
    isplitl [HO] <;> iassumption) k devs
  iintro ⟨#HR, #Hlev, HO, Hc, Hat⟩ Hk
  iapply h $$ [HO Hc Hat]
  · isplitr
    · isplitr; · iexact HR
      iexact Hlev
    isplitl [HO]; · iexact HO
    rw [List.length_finRange]
    iapply (WSt_start m c q hq N hN)
    isplitl [Hc] <;> iassumption
  iintro ⟨HO, Hst⟩
  ihave Hd := (WSt_done m c q hq N) $$ Hst
  icases Hd with ⟨Hat, Hp⟩
  imod (close_d m K c q (by omega)) $$ [Hat] with Hz
  · isplitr; · iexact HR
    iexact Hat
  iapply Hk
  isplitl [HO]; · iexact HO
  isplitl [Hz]; · iexact Hz
  iexact Hp

/-- The barrier's wait: all 32 units at once. -/
theorem bar_wait (c : Dev nD) (O : CellTallies nD τ sig Unit) (hO : Above 1 O) (Q : PUnit → sProp 𝕄) (k : PUnit → PU F) :
    iprop(records m K ∗ levAts L lv ∗ ow c O ∗ cred (tallyAt (barCell c) () 32) ∗ atPos ER (barCell c) 0 ∅ 0)
      ⊢ iprop(((ow c O ∗ semVal (barCell c) 0 ∗ bigSep Finset.univ (fun d => payB c d)) -∗ WP c Q (k ⟨⟩)) -∗ WP c Q (.op (.semWait barS ((32 : ℕ) : ℤ)) k)) := by
  iintro ⟨#HR, #Hlev, HO, Hc, Hat⟩ Hk
  iapply (wait_step m c (.reg barS) 32 (K (c, 0)) 0 O hO Q (wpE_semWait_eq 𝒱₀ (c : Thread nD τ) none Set.univ) k) $$ [HO Hc Hat]
  · isplitr; · iapply (inv_bar m K c); iexact HR
    isplitr; · iexact Hlev
    isplitl [HO]; · iexact HO
    unfold WSt
    iexists ∅, 0
    isplitr; · ipureintro; exact ⟨Finset.empty_subset _, by rw [expect_bar m c]⟩
    rw [Nat.zero_add, Nat.mul_one]
    isplitl [Hc]; · iexact Hc
    isplitl [Hat]; · iexact Hat
    rw [bigSep_empty]; iempintro
  unfold WSt
  rw [duties_bar m c]
  iintro ⟨HO, Hat, Hp⟩
  imod (Rounds.cell_close ER (Rd m) (Set.mem_univ (K (c, 0))) (fun h => h) (R := 1) (duties_later m (barCell c))) $$ [Hat] with Hz
  · isplitr; · iapply (inv_bar m K c); iexact HR
    iexact Hat
  iapply Hk
  isplitl [HO]; · iexact HO
  isplitl [Hz]; · iexact Hz
  iapply (Entails.of_eq (show (bigSep Finset.univ fun d => (Rd m).payload (barCell c) 0 d) = bigSep Finset.univ fun d => payB c d from rfl)); iexact Hp

/-! ## A fetch and its wait -/

/-- A fetch starts: the array and the buffer go with it, and the credit to await it stays. -/
theorem fetch_step {s : Shape} {e : EltTy} (c : Dev nD) (q : DmaSem sig) (h0 : q.val ≠ 0) (hq : q.val < 8)
    (src : Memref sig .tc .hbm s e) (dst : Memref sig .tc .vmem s e) (hN : dst.view.dmaCredit = amtD q.val) (fs : Buf (Elt F) (src.view.loc (c : Thread nD τ)))
    (h : ∀ fd, iprop(pts dst c fullShare (dst.view.write (Elt F) fd (src.view.read (Elt F) fs) Finset.univ) ∗ pts src c fullShare fs) ⊢ payD m c q.val 0)
    {hsrc : src.view.WordExact} {hdst : dst.view.WordExact} {hsem : DmaTarget.Typed (nD := nD) (τ := τ) (p := .tc) .hbm (.dma q) (.here dst)}
    (Q : PUnit → sProp 𝕄) (k : PUnit → PU F) :
    iprop(records m K ∗ pts src c fullShare fs ∗ ptsE dst c ∗ dutyTok ER (dCell c q) 0 (0 : Fin 32))
      ⊢ iprop((cred (tallyAt (dCell c q) () (amtD q.val)) -∗ WP c Q (k ⟨⟩)) -∗ WP c Q (.op (.enqueueDma src (.here dst) (.dma q) hsrc hdst hsem) k)) := by
  unfold ptsE pts
  iintro ⟨#HR, Hs, ⟨%fd, Hd⟩, Ht⟩ Hk
  iapply (Rounds.wp_copy_pointsTo 𝒱₀ ER (Rd m) (c : Thread nD τ) none (κ := K (c, q)) (r := 0) (d := (0 : Fin 32)) (q := fullShare) (fs := fs) (fd := fd)
      (by rw [duties_in m c q h0 hq]; exact Finset.mem_singleton_self _) () (amtD q.val) (show dst.view.amount (.dma q) = amtD q.val from hN) rfl (h fd)) $$ [Hs Hd Ht]
  · isplitr; · iapply (inv_d m K c q h0); iexact HR
    isplitl [Hs]; · iexact Hs
    isplitl [Hd]; · iexact Hd
    isplitl [Ht]; · iexact Ht
    iapply (reached_d m K c q h0); iexact HR
  iexact Hk

/-- Awaiting a fetch gives the filled buffer and the array back, with the semaphore at zero. -/
theorem fetchW_step (c : Dev nD) (q : DmaSem sig) (h0 : q.val ≠ 0) (hq : q.val < 8) (O : CellTallies nD τ sig Unit) (hO : Above (lv (dCell c q) ()) O) (Q : PUnit → sProp 𝕄)
    {w : Eff F PUnit} (hw : ∀ Kt : PUnit → sProp 𝕄, wpE (defs₀ (F := F)) 𝒱₀ (c : Thread nD τ) none Set.univ w Kt = waitSpec (c : Thread nD τ) Set.univ (.dma q) (amtD q.val) Kt) (k : PUnit → PU F) :
    iprop(records m K ∗ levAts L lv ∗ ow c O ∗ cred (tallyAt (dCell c q) () (amtD q.val)) ∗ atPos ER (dCell c q) 0 ∅ 0)
      ⊢ iprop(((ow c O ∗ semVal (dCell c q) 0 ∗ payD m c q.val 0) -∗ WP c Q (k ⟨⟩)) -∗ WP c Q (.op w k)) := by
  iintro ⟨#HR, #Hlev, HO, Hc, Hat⟩ Hk
  iapply (wait_step m c (.dma q) (amtD q.val) (K (c, q)) 0 O hO Q hw k) $$ [HO Hc Hat]
  · isplitr; · iapply (inv_d m K c q h0); iexact HR
    isplitr; · iexact Hlev
    isplitl [HO]; · iexact HO
    unfold WSt
    iexists ∅, 0
    isplitr; · ipureintro; exact ⟨Finset.empty_subset _, by rw [expect_in m c q h0 hq]; show 0 + amtD q.val * 1 = amtD q.val; omega⟩
    rw [Nat.zero_add, Nat.mul_one]
    isplitl [Hc]; · iexact Hc
    isplitl [Hat]; · iexact Hat
    rw [bigSep_empty]; iempintro
  unfold WSt
  rw [duties_in m c q h0 hq, bigSep_singleton]
  iintro ⟨HO, Hat, Hp⟩
  imod (close_d m K c q h0) $$ [Hat] with Hz
  · isplitr; · iexact HR
    iexact Hat
  iapply Hk
  isplitl [HO]; · iexact HO
  isplitl [Hz]; · iexact Hz
  iapply (Entails.of_eq (show (Rd m).payload (dCell c q) 0 (0 : Fin 32) = payD m c q.val 0 from rfl)); iexact Hp

/-! ## The last waits -/

/-- A loop with four operations in each turn, by an invariant. -/
theorem wp_forOps4 (c : Dev nD) (Q : PUnit → sProp 𝕄) (R : sProp 𝕄) [BI.Persistent R] (P : List (Dev nD) → sProp 𝕄) (f₁ f₂ f₃ f₄ : Dev nD → Eff F PUnit)
    (h : ∀ d l (k : PU F), iprop(R ∗ P (d :: l)) ⊢ iprop((P l -∗ WP c Q k) -∗ WP c Q (.op (f₁ d) fun _ => .op (f₂ d) fun _ => .op (f₃ d) fun _ => .op (f₄ d) fun _ => k))) (k : PU F) :
    ∀ l : List (Dev nD), iprop(R ∗ P l) ⊢ iprop((P [] -∗ WP c Q k) -∗ WP c Q (forOps4 l f₁ f₂ f₃ f₄ k))
  | [] => by
    iintro ⟨-, HP⟩ Hk
    unfold forOps4
    iapply Hk; iexact HP
  | d :: l => by
    iintro ⟨#HR, HP⟩ Hk
    unfold forOps4
    iapply (h d l (forOps4 l f₁ f₂ f₃ f₄ k)) $$ [HP]
    · isplitr; · iexact HR
      iexact HP
    iintro HP
    iapply (wp_forOps4 c Q R P f₁ f₂ f₃ f₄ h k l) $$ [HP]
    · isplitr; · iexact HR
      iexact HP
    iexact Hk

/-- The tokens and the position a device awaits a semaphore's 32 windows with. -/
def wq (c : Dev nD) (q : DmaSem sig) (N : ℕ) : sProp 𝕄 := iprop(cred (tallyAt (dCell c q) () (N * 32)) ∗ atPos ER (dCell c q) 0 ∅ 0)

/-- The last loop awaits the four send semaphores in turn, and ends with all lent sources back. -/
theorem wait_all4 (c : Dev nD) (q₁ q₂ q₃ q₄ : DmaSem sig) (h₁ : 8 ≤ q₁.val) (h₂ : 8 ≤ q₂.val) (h₃ : 8 ≤ q₃.val) (h₄ : 8 ≤ q₄.val) (N₁ N₂ N₃ N₄ : ℕ)
    (hN₁ : amtD q₁.val = N₁) (hN₂ : amtD q₂.val = N₂) (hN₃ : amtD q₃.val = N₃) (hN₄ : amtD q₄.val = N₄) (Q : PUnit → sProp 𝕄) (f₁ f₂ f₃ f₄ : Dev nD → Eff F PUnit)
    (hw₁ : ∀ d, ∀ Kt : PUnit → sProp 𝕄, wpE (defs₀ (F := F)) 𝒱₀ (c : Thread nD τ) none Set.univ (f₁ d) Kt = waitSpec (c : Thread nD τ) Set.univ (.dma q₁) N₁ Kt)
    (hw₂ : ∀ d, ∀ Kt : PUnit → sProp 𝕄, wpE (defs₀ (F := F)) 𝒱₀ (c : Thread nD τ) none Set.univ (f₂ d) Kt = waitSpec (c : Thread nD τ) Set.univ (.dma q₂) N₂ Kt)
    (hw₃ : ∀ d, ∀ Kt : PUnit → sProp 𝕄, wpE (defs₀ (F := F)) 𝒱₀ (c : Thread nD τ) none Set.univ (f₃ d) Kt = waitSpec (c : Thread nD τ) Set.univ (.dma q₃) N₃ Kt)
    (hw₄ : ∀ d, ∀ Kt : PUnit → sProp 𝕄, wpE (defs₀ (F := F)) 𝒱₀ (c : Thread nD τ) none Set.univ (f₄ d) Kt = waitSpec (c : Thread nD τ) Set.univ (.dma q₄) N₄ Kt) (k : PU F) :
    iprop(records m K ∗ levAts L lv ∗ ow c 0 ∗ wq c q₁ N₁ ∗ wq c q₂ N₂ ∗ wq c q₃ N₃ ∗ wq c q₄ N₄)
      ⊢ iprop(((ow c 0 ∗ (semVal (dCell c q₁) 0 ∗ bigSep Finset.univ (fun d => payD m c q₁.val d)) ∗ (semVal (dCell c q₂) 0 ∗ bigSep Finset.univ (fun d => payD m c q₂.val d))
            ∗ (semVal (dCell c q₃) 0 ∗ bigSep Finset.univ (fun d => payD m c q₃.val d)) ∗ (semVal (dCell c q₄) 0 ∗ bigSep Finset.univ (fun d => payD m c q₄.val d))) -∗ WP c Q k)
        -∗ WP c Q (forOps4 devs f₁ f₂ f₃ f₄ k)) := by
  have h := wp_forOps4 c Q iprop(records m K ∗ levAts L lv)
    (fun l => iprop(ow c 0 ∗ WSt m c (.dma q₁) N₁ l.length ∗ WSt m c (.dma q₂) N₂ l.length ∗ WSt m c (.dma q₃) N₃ l.length ∗ WSt m c (.dma q₄) N₄ l.length)) f₁ f₂ f₃ f₄ (by
    intro d l k
    iintro ⟨⟨#HR, #Hlev⟩, HO, H1, H2, H3, H4⟩ Hk
    rw [List.length_cons]
    iapply (wait_step m c (.dma q₁) N₁ (K (c, q₁)) l.length 0 (above_zero _) Q (hw₁ d) _) $$ [HO H1]
    · isplitr; · iapply (inv_d m K c q₁ (by omega)); iexact HR
      isplitr; · iexact Hlev
      isplitl [HO] <;> iassumption
    iintro ⟨HO, H1⟩
    iapply (wait_step m c (.dma q₂) N₂ (K (c, q₂)) l.length 0 (above_zero _) Q (hw₂ d) _) $$ [HO H2]
    · isplitr; · iapply (inv_d m K c q₂ (by omega)); iexact HR
      isplitr; · iexact Hlev
      isplitl [HO] <;> iassumption
    iintro ⟨HO, H2⟩
    iapply (wait_step m c (.dma q₃) N₃ (K (c, q₃)) l.length 0 (above_zero _) Q (hw₃ d) _) $$ [HO H3]
    · isplitr; · iapply (inv_d m K c q₃ (by omega)); iexact HR
      isplitr; · iexact Hlev
      isplitl [HO] <;> iassumption
    iintro ⟨HO, H3⟩
    iapply (wait_step m c (.dma q₄) N₄ (K (c, q₄)) l.length 0 (above_zero _) Q (hw₄ d) _) $$ [HO H4]
    · isplitr; · iapply (inv_d m K c q₄ (by omega)); iexact HR
      isplitr; · iexact Hlev
      isplitl [HO] <;> iassumption
    iintro ⟨HO, H4⟩
    iapply Hk
    isplitl [HO]; · iexact HO
    isplitl [H1]; · iexact H1
    isplitl [H2]; · iexact H2
    isplitl [H3] <;> iassumption) k devs
  unfold wq
  iintro ⟨#HR, #Hlev, HO, H1, H2, H3, H4⟩ Hk
  iapply h $$ [HO H1 H2 H3 H4]
  · isplitr
    · isplitr; · iexact HR
      iexact Hlev
    isplitl [HO]; · iexact HO
    rw [List.length_finRange]
    isplitl [H1]; · iapply (WSt_start m c q₁ h₁ N₁ hN₁); iexact H1
    isplitl [H2]; · iapply (WSt_start m c q₂ h₂ N₂ hN₂); iexact H2
    isplitl [H3]; · iapply (WSt_start m c q₃ h₃ N₃ hN₃); iexact H3
    iapply (WSt_start m c q₄ h₄ N₄ hN₄); iexact H4
  iintro ⟨HO, H1, H2, H3, H4⟩
  ihave H1 := (WSt_done m c q₁ h₁ N₁) $$ H1
  ihave H2 := (WSt_done m c q₂ h₂ N₂) $$ H2
  ihave H3 := (WSt_done m c q₃ h₃ N₃) $$ H3
  ihave H4 := (WSt_done m c q₄ h₄ N₄) $$ H4
  icases H1 with ⟨Ha1, H1⟩
  icases H2 with ⟨Ha2, H2⟩
  icases H3 with ⟨Ha3, H3⟩
  icases H4 with ⟨Ha4, H4⟩
  imod (close_d m K c q₁ (by omega)) $$ [Ha1] with Hz1
  · isplitr; · iexact HR
    iexact Ha1
  imod (close_d m K c q₂ (by omega)) $$ [Ha2] with Hz2
  · isplitr; · iexact HR
    iexact Ha2
  imod (close_d m K c q₃ (by omega)) $$ [Ha3] with Hz3
  · isplitr; · iexact HR
    iexact Ha3
  imod (close_d m K c q₄ (by omega)) $$ [Ha4] with Hz4
  · isplitr; · iexact HR
    iexact Ha4
  iapply Hk
  isplitl [HO]; · iexact HO
  isplitl [Hz1 H1]; · isplitl [Hz1] <;> iassumption
  isplitl [Hz2 H2]; · isplitl [Hz2] <;> iassumption
  isplitl [Hz3 H3]; · isplitl [Hz3] <;> iassumption
  isplitl [Hz4] <;> iassumption

/-! ## Loads and stores -/

/-- A load from a held window reads its contents. -/
theorem load_step {cs : CoreSpace} {s : Shape} {e : EltTy} (v : Memref sig .tc cs s e) (r : Rect s) {hl : v.view.LoadsAt r.toLoadRect} (c : Dev nD) (q : PosShare TreeShare)
    (f : Buf (Elt F) (v.view.loc (c : Thread nD τ))) (x : r.shape.Idx → Elt F e) (hx : v.view.readAt (Elt F) r.toLoadRect f = x) (Q : PUnit → sProp 𝕄) (k : (r.shape.Idx → Elt F e) → PU F) :
    pts v c q f ⊢ iprop((pts v c q f -∗ WP c Q (k x)) -∗ WP c Q (.op (.load v r.toLoadRect hl) k)) := by
  subst hx
  unfold pts
  exact wp_load 𝒱₀ (c : Thread nD τ) none Set.univ (m := v) (Finset.map_subset_map.mpr (Finset.subset_univ _))

/-- A store into a held buffer leaves the stored contents. -/
theorem store_step {cs : CoreSpace} {s : Shape} {e : EltTy} (v : Memref sig .tc cs s e) (r : Rect s) {w : r.shape.Idx → Elt F e} {hx : (v.access r).Stores Finset.univ} {hm : (Finset.univ : Finset r.shape.Idx) = Finset.univ ∨ ∀ a, r.stride a = 1}
    (c : Dev nD) (f g : Buf (Elt F) (v.view.loc (c : Thread nD τ))) (hg : (v.access r : View sig .tc _ _ _).write (Elt F) f w Finset.univ = g) (Q : PUnit → sProp 𝕄) (k : PUnit → PU F)
    (hS : (v.access r).setOn Finset.univ ⊆ v.view.set) :
    pts v c fullShare f ⊢ iprop((pts v c fullShare g -∗ WP c Q (k ⟨⟩)) -∗ WP c Q (.op (.store v r w Finset.univ hx hm) k)) := by
  subst hg
  unfold pts
  exact wp_store 𝒱₀ (c : Thread nD τ) none Set.univ (m := v) (r := r) (Mk := Finset.univ) hS

end

end Cert.MlpProof

end
-- ==== Proof.Body.lean ====
/-
# The body run, phase by phase

Each phase takes what it needs and hands on what it leaves, in front of the next phase.
-/
module

public import proofs.«01_k».proof.Proof.Phases
public import Idealize.ShloMosaic.Lib.Ring

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers by windows and by shares -/

/-- The source of the weight products is its 32 windows of 16 rows. -/
theorem split_wfSrc (c : Dev nD) (f : Buf (Elt F) ((c : Thread nD τ).loc cc0_scratch8)) :
    (pts (Memref.whole cc0_scratch8) c fullShare f : sProp 𝕄) = bigSep Finset.univ fun d : Dev nD => pts (wfSrcM d) c fullShare f := by
  have h := Ring.pointsTo_blocks (nD := nD) (τ := τ) (sig := sig) (Ix := Unit) (Val := Elt F) (Name := ℕ) (U := UU) (Lvl := ℕ) (ℓ := (c : Thread nD τ).loc cc0_scratch8) (fun d : Dev nD => (wfSrcM d).view.set) (disjoint_of_key fun k i => mem_wfSrc) (cover_of_key (fun k i => mem_wfSrc) key16) (q := fullShare) f
  rw [pts_whole]; exact h
/-- The gathered weight products are their 32 windows of 16 rows. -/
theorem split_wfFull (c : Dev nD) (f : Buf (Elt F) ((c : Thread nD τ).loc cc0_scratch11)) :
    (pts (Memref.whole cc0_scratch11) c fullShare f : sProp 𝕄) = bigSep Finset.univ fun d : Dev nD => pts (wfFullM d) c fullShare f := by
  have h := Ring.pointsTo_blocks (nD := nD) (τ := τ) (sig := sig) (Ix := Unit) (Val := Elt F) (Name := ℕ) (U := UU) (Lvl := ℕ) (ℓ := (c : Thread nD τ).loc cc0_scratch11) (fun d : Dev nD => (wfFullM d).view.set) (disjoint_of_key fun k i => mem_wfFull) (cover_of_key (fun k i => mem_wfFull) key16) (q := fullShare) f
  rw [pts_whole]; exact h
/-- The source of the first layer's products is its 32 windows of 4 rows. -/
theorem split_p1 (c : Dev nD) (f : Buf (Elt F) ((c : Thread nD τ).loc cc0_scratch7)) :
    (pts (Memref.whole cc0_scratch7) c fullShare f : sProp 𝕄) = bigSep Finset.univ fun d : Dev nD => pts (p1M d) c fullShare f := by
  have h := Ring.pointsTo_blocks (nD := nD) (τ := τ) (sig := sig) (Ix := Unit) (Val := Elt F) (Name := ℕ) (U := UU) (Lvl := ℕ) (ℓ := (c : Thread nD τ).loc cc0_scratch7) (fun d : Dev nD => (p1M d).view.set) (disjoint_of_key fun k i => mem_p1) (cover_of_key (fun k i => mem_p1) key4) (q := fullShare) f
  rw [pts_whole]; exact h
/-- The gathered third layer is its 32 windows of 4 rows. -/
theorem split_h3Full (c : Dev nD) (f : Buf (Elt F) ((c : Thread nD τ).loc cc0_scratch14)) :
    (pts (Memref.whole cc0_scratch14) c fullShare f : sProp 𝕄) = bigSep Finset.univ fun d : Dev nD => pts (h3FullM d) c fullShare f := by
  have h := Ring.pointsTo_blocks (nD := nD) (τ := τ) (sig := sig) (Ix := Unit) (Val := Elt F) (Name := ℕ) (U := UU) (Lvl := ℕ) (ℓ := (c : Thread nD τ).loc cc0_scratch14) (fun d : Dev nD => (h3FullM d).view.set) (disjoint_of_key fun k i => mem_h3Full) (cover_of_key (fun k i => mem_h3Full) key4) (q := fullShare) f
  rw [pts_whole]; exact h
/-- The slots for the weight products are 32 slots. -/
theorem split_wfSlot (c : Dev nD) (f : Buf (Elt F) ((c : Thread nD τ).loc cc0_scratch9)) :
    (pts (Memref.whole cc0_scratch9) c fullShare f : sProp 𝕄) = bigSep Finset.univ fun d : Dev nD => pts (wfSlotM d) c fullShare f := by
  have h := Ring.pointsTo_blocks (nD := nD) (τ := τ) (sig := sig) (Ix := Unit) (Val := Elt F) (Name := ℕ) (U := UU) (Lvl := ℕ) (ℓ := (c : Thread nD τ).loc cc0_scratch9) (fun d : Dev nD => (wfSlotM d).view.set) (disjoint_of_key fun k i => mem_wfSlot)
    (cover_of_key (fun k i => mem_wfSlot) (fun i : S32x16x256.Idx => (i 0).isLt)) (q := fullShare) f
  rw [pts_whole]; exact h
/-- The slots for the first layer's products are 32 slots. -/
theorem split_l1Slot (c : Dev nD) (f : Buf (Elt F) ((c : Thread nD τ).loc cc0_scratch12)) :
    (pts (Memref.whole cc0_scratch12) c fullShare f : sProp 𝕄) = bigSep Finset.univ fun d : Dev nD => pts (l1SlotM d) c fullShare f := by
  have h := Ring.pointsTo_blocks (nD := nD) (τ := τ) (sig := sig) (Ix := Unit) (Val := Elt F) (Name := ℕ) (U := UU) (Lvl := ℕ) (ℓ := (c : Thread nD τ).loc cc0_scratch12) (fun d : Dev nD => (l1SlotM d).view.set) (disjoint_of_key fun k i => mem_l1Slot)
    (cover_of_key (fun k i => mem_l1Slot) (fun i : S32x4x256.Idx => (i 0).isLt)) (q := fullShare) f
  rw [pts_whole]; exact h

/-- A whole buffer is its 32 lent shares. -/
theorem split_lent {sp : Space} {s : Shape} {e : EltTy} (v : Memref sig .tc sp s e) (c : Dev nD) (f : Buf (Elt F) (v.view.loc (c : Thread nD τ))) :
    (pts v c fullShare f : sProp 𝕄) = bigSep Finset.univ fun d : Dev nD => pts v c (lent d) f :=
by
  have h := ShareLeaves.pointsTo_leaves (Ix := Unit) (Val := Elt F) (Name := ℕ) (U := UU) (Lvl := ℕ) v.view.set f 5 fullShare
  unfold pts lent
  exact h

/-- A window held at given contents is held at some contents. -/
theorem pts_ptsE {sp : Space} {s : Shape} {e : EltTy} (v : Memref sig .tc sp s e) (c : Dev nD) (f : Buf (Elt F) (v.view.loc (c : Thread nD τ))) : (pts v c fullShare f : sProp 𝕄) ⊢ ptsE v c := by
  unfold ptsE; iintro H; iexists f; iexact H

/-- The slots for the weight products at any contents, slot by slot. -/
theorem splitE_wfSlot (c : Dev nD) : (ptsE (Memref.whole cc0_scratch9) c : sProp 𝕄) ⊢ bigSep Finset.univ fun d : Dev nD => ptsE (wfSlotM d) c := by
  conv_lhs => unfold ptsE
  iintro ⟨%f, H⟩
  iapply ((Entails.of_eq (split_wfSlot c f)).trans (bigSep_mono fun d _ => pts_ptsE (wfSlotM d) c f)); iexact H
/-- The gathered weight products at any contents, window by window. -/
theorem splitE_wfFull (c : Dev nD) : (ptsE (Memref.whole cc0_scratch11) c : sProp 𝕄) ⊢ bigSep Finset.univ fun d : Dev nD => ptsE (wfFullM d) c := by
  conv_lhs => unfold ptsE
  iintro ⟨%f, H⟩
  iapply ((Entails.of_eq (split_wfFull c f)).trans (bigSep_mono fun d _ => pts_ptsE (wfFullM d) c f)); iexact H
/-- The slots for the first layer's products at any contents, slot by slot. -/
theorem splitE_l1Slot (c : Dev nD) : (ptsE (Memref.whole cc0_scratch12) c : sProp 𝕄) ⊢ bigSep Finset.univ fun d : Dev nD => ptsE (l1SlotM d) c := by
  conv_lhs => unfold ptsE
  iintro ⟨%f, H⟩
  iapply ((Entails.of_eq (split_l1Slot c f)).trans (bigSep_mono fun d _ => pts_ptsE (l1SlotM d) c f)); iexact H
/-- The gathered third layer at any contents, window by window. -/
theorem splitE_h3Full (c : Dev nD) : (ptsE (Memref.whole cc0_scratch14) c : sProp 𝕄) ⊢ bigSep Finset.univ fun d : Dev nD => ptsE (h3FullM d) c := by
  conv_lhs => unfold ptsE
  iintro ⟨%f, H⟩
  iapply ((Entails.of_eq (split_h3Full c f)).trans (bigSep_mono fun d _ => pts_ptsE (h3FullM d) c f)); iexact H

/-! ## Families over the devices -/

/-- A family over the devices, in the order in which the loops visit them. -/
theorem bigSepL_devs (Φ : Dev nD → sProp 𝕄) : bigSep Finset.univ Φ = bigSepL devs Φ :=
  bigSep_univ_eq_bigSepL devs (by ext d; simp [devs]) (List.nodup_finRange 32) Φ

/-- Four families over the devices are one family of fours. -/
theorem zip4 (A B C D : Dev nD → sProp 𝕄) :
    iprop(bigSep Finset.univ A ∗ bigSep Finset.univ B ∗ bigSep Finset.univ C ∗ bigSep Finset.univ D) = bigSep Finset.univ fun d => iprop(A d ∗ B d ∗ C d ∗ D d) := by
  rw [bigSep_sep', bigSep_sep', bigSep_sep']
/-- Five families over the devices are one family, in the order of the loops. -/
theorem zip5 (A B C D E : Dev nD → sProp 𝕄) :
    iprop((bigSep Finset.univ A ∗ bigSep Finset.univ B ∗ bigSep Finset.univ C ∗ bigSep Finset.univ D) ∗ bigSep Finset.univ E) = bigSepL devs fun d => iprop((A d ∗ B d ∗ C d ∗ D d) ∗ E d) := by
  rw [← bigSepL_devs, bigSep_sep', bigSep_sep', bigSep_sep', bigSep_sep']

/-- The tokens of a device's own send semaphore, and those of everyone's receive semaphore that it pays. -/
def stok (c : Dev nD) (q : DmaSem sig) : sProp 𝕄 := bigSep Finset.univ fun d : Dev nD => dutyTok ER (dCell c q) 0 d
def rtok (c : Dev nD) (q : DmaSem sig) : sProp 𝕄 := bigSep Finset.univ fun d : Dev nD => dutyTok ER (dCell d q) 0 c
def btok (c : Dev nD) : sProp 𝕄 := bigSep Finset.univ fun d : Dev nD => dutyTok ER (barCell d) 0 c

/-- What the 32 copies of one exchange take: the sources, the destinations, and the payments of both semaphores. -/
theorem sends_intro {s : Shape} {e : EltTy} (c : Dev nD) (sS sR : DmaSem sig) (src : Dev nD → Memref sig .tc .vmem s e) (dst : Memref sig .tc .vmem s e) (q : Dev nD → PosShare TreeShare)
    (fs : ∀ d, Buf (Elt F) ((src d).view.loc (c : Thread nD τ))) :
    iprop((bigSep Finset.univ fun d => pts (src d) c (q d) (fs d)) ∗ (bigSep Finset.univ fun d => ptsE dst d) ∗ stok c sS ∗ rtok c sR)
      ⊢ (bigSepL devs fun d => sendP c d sS sR (src d) dst (q d) (fs d) : sProp 𝕄) := by
  unfold stok rtok
  rw [zip4, bigSepL_devs]
  exact BI.Entails.refl _

/-! ## The phases -/

section
variable (K : Dev nD × Fin 16 → ℕ)

/-- What a fetch starts from. -/
def fin {s : Shape} {e : EltTy} (c : Dev nD) (q : DmaSem sig) (src : Memref sig .tc .hbm s e) (dst : Memref sig .tc .vmem s e) (fs : Buf (Elt F) (src.view.loc (c : Thread nD τ))) : sProp 𝕄 :=
  iprop(pts src c fullShare fs ∗ ptsE dst c ∗ dutyTok ER (dCell c q) 0 (0 : Fin 32))

/-- The credit and the position a fetch is awaited with. -/
def fq (c : Dev nD) (q : DmaSem sig) : sProp 𝕄 := iprop(cred (tallyAt (dCell c q) () (amtD q.val)))
def fat (c : Dev nD) (q : DmaSem sig) : sProp 𝕄 := iprop(atPos ER (dCell c q) 0 ∅ 0)

/-- The seven fetches start; the device keeps the credit to await each. -/
theorem run_fetch (c : Dev nD) (Q : PUnit → sProp 𝕄) :
    iprop(records m K ∗ fin c (inS 0) (Memref.whole main_arg4) (Memref.whole cc0_scratch2) (wout0C m c) ∗ fin c (inS 1) (Memref.whole main_arg2) (Memref.whole cc0_scratch3) (win1C m c)
        ∗ fin c (inS 2) (Memref.whole main_arg5) (Memref.whole cc0_scratch4) (wout1C m c) ∗ fin c (inS 3) (Memref.whole main_arg3) (Memref.whole cc0_scratch5) (win2C m c)
        ∗ fin c (inS 4) (Memref.whole main_arg0) (Memref.whole cc0_scratch0) (xC m c) ∗ fin c (inS 5) (Memref.whole main_arg1) (Memref.whole cc0_scratch1) (win0C m c)
        ∗ fin c (inS 6) (Memref.whole main_arg6) (Memref.whole cc0_scratch6) (wout2C m c))
      ⊢ iprop(((fq c (inS 0) ∗ fq c (inS 1) ∗ fq c (inS 2) ∗ fq c (inS 3) ∗ fq c (inS 4) ∗ fq c (inS 5) ∗ fq c (inS 6)) -∗ WP c Q (phBar c)) -∗ WP c Q (phFetch c)) := by
  unfold fin fq phFetch
  iintro ⟨#HR, H0, H1, H2, H3, H4, H5, H6⟩ Hk
  iapply (fetch_step m K c (inS 0) (by decide) (by decide) (Memref.whole main_arg4) (Memref.whole cc0_scratch2) rfl (wout0C m c)
    (fun fd => Entails.of_eq (by rw [show (Memref.whole cc0_scratch2).view.write (Elt F) fd ((Memref.whole main_arg4).view.read (Elt F) (wout0C m c)) Finset.univ = wout0C m c from View.write_whole_univ _ _ _]; rfl)) Q _) $$ [H0]
  · isplitr; · iexact HR
    iexact H0
  iintro H0
  iapply (fetch_step m K c (inS 1) (by decide) (by decide) (Memref.whole main_arg2) (Memref.whole cc0_scratch3) rfl (win1C m c)
    (fun fd => Entails.of_eq (by rw [show (Memref.whole cc0_scratch3).view.write (Elt F) fd ((Memref.whole main_arg2).view.read (Elt F) (win1C m c)) Finset.univ = win1C m c from View.write_whole_univ _ _ _]; rfl)) Q _) $$ [H1]
  · isplitr; · iexact HR
    iexact H1
  iintro H1
  iapply (fetch_step m K c (inS 2) (by decide) (by decide) (Memref.whole main_arg5) (Memref.whole cc0_scratch4) rfl (wout1C m c)
    (fun fd => Entails.of_eq (by rw [show (Memref.whole cc0_scratch4).view.write (Elt F) fd ((Memref.whole main_arg5).view.read (Elt F) (wout1C m c)) Finset.univ = wout1C m c from View.write_whole_univ _ _ _]; rfl)) Q _) $$ [H2]
  · isplitr; · iexact HR
    iexact H2
  iintro H2
  iapply (fetch_step m K c (inS 3) (by decide) (by decide) (Memref.whole main_arg3) (Memref.whole cc0_scratch5) rfl (win2C m c)
    (fun fd => Entails.of_eq (by rw [show (Memref.whole cc0_scratch5).view.write (Elt F) fd ((Memref.whole main_arg3).view.read (Elt F) (win2C m c)) Finset.univ = win2C m c from View.write_whole_univ _ _ _]; rfl)) Q _) $$ [H3]
  · isplitr; · iexact HR
    iexact H3
  iintro H3
  iapply (fetch_step m K c (inS 4) (by decide) (by decide) (Memref.whole main_arg0) (Memref.whole cc0_scratch0) rfl (xC m c)
    (fun fd => Entails.of_eq (by rw [show (Memref.whole cc0_scratch0).view.write (Elt F) fd ((Memref.whole main_arg0).view.read (Elt F) (xC m c)) Finset.univ = xC m c from View.write_whole_univ _ _ _]; rfl)) Q _) $$ [H4]
  · isplitr; · iexact HR
    iexact H4
  iintro H4
  iapply (fetch_step m K c (inS 5) (by decide) (by decide) (Memref.whole main_arg1) (Memref.whole cc0_scratch1) rfl (win0C m c)
    (fun fd => Entails.of_eq (by rw [show (Memref.whole cc0_scratch1).view.write (Elt F) fd ((Memref.whole main_arg1).view.read (Elt F) (win0C m c)) Finset.univ = win0C m c from View.write_whole_univ _ _ _]; rfl)) Q _) $$ [H5]
  · isplitr; · iexact HR
    iexact H5
  iintro H5
  iapply (fetch_step m K c (inS 6) (by decide) (by decide) (Memref.whole main_arg6) (Memref.whole cc0_scratch6) rfl (wout2C m c)
    (fun fd => Entails.of_eq (by rw [show (Memref.whole cc0_scratch6).view.write (Elt F) fd ((Memref.whole main_arg6).view.read (Elt F) (wout2C m c)) Finset.univ = wout2C m c from View.write_whole_univ _ _ _]; rfl)) Q _) $$ [H6]
  · isplitr; · iexact HR
    iexact H6
  iintro H6
  iapply Hk
  isplitl [H0]; · iexact H0
  isplitl [H1]; · iexact H1
  isplitl [H2]; · iexact H2
  isplitl [H3]; · iexact H3
  isplitl [H4]; · iexact H4
  isplitl [H5]; · iexact H5
  iexact H6

abbrev O₁ : CellTallies nD τ sig Unit := owAg3 devs + owWfag devs + owL1 devs + owWfrs devs

/-- The device signals every device, awaits all 32 signals, and holds the windows that it is to write everywhere. -/
theorem run_bar (c : Dev nD) (Q : PUnit → sProp 𝕄) :
    iprop(records m K ∗ levAts L lv ∗ ow c O₀ ∗ btok c ∗ cred (tallyAt (barCell c) () 32) ∗ atPos ER (barCell c) 0 ∅ 0
        ∗ ptsE (Memref.whole cc0_scratch9) c ∗ ptsE (Memref.whole cc0_scratch11) c ∗ ptsE (Memref.whole cc0_scratch12) c ∗ ptsE (Memref.whole cc0_scratch14) c)
      ⊢ iprop(((ow c O₁ ∗ semVal (barCell c) 0 ∗ (bigSep Finset.univ fun d => ptsE (wfSlotM c) d) ∗ (bigSep Finset.univ fun d => ptsE (wfFullM c) d)
            ∗ (bigSep Finset.univ fun d => ptsE (l1SlotM c) d) ∗ (bigSep Finset.univ fun d => ptsE (h3FullM c) d)) -∗ WP c Q (phWf c)) -∗ WP c Q (phBar c)) := by
  unfold phBar btok
  iintro ⟨#HR, #Hlev, HO, Ht, Hc, Hat, H9, H11, H12, H14⟩ Hk
  ihave H9 := (splitE_wfSlot (F := F) c) $$ H9
  ihave H11 := (splitE_wfFull (F := F) c) $$ H11
  ihave H12 := (splitE_l1Slot (F := F) c) $$ H12
  ihave H14 := (splitE_h3Full (F := F) c) $$ H14
  iapply (signal_all m K c Q O₁ _ devs) $$ [HO Ht H9 H11 H12 H14]
  · isplitr; · iexact HR
    isplitr [HO]
    · iapply (Entails.of_eq (zip5 (fun d => ptsE (wfSlotM d) c) (fun d => ptsE (wfFullM d) c) (fun d => ptsE (l1SlotM d) c) (fun d => ptsE (h3FullM d) c) (fun d => dutyTok ER (barCell d) 0 c)))
      isplitr [Ht]
      · isplitl [H9]; · iexact H9
        isplitl [H11]; · iexact H11
        isplitl [H12] <;> iassumption
      iexact Ht
    iexact HO
  iintro HO
  iapply (bar_wait m K c O₁ (above_add (above_add (above_add (above_ag3 (by decide) _) (above_wfag (by decide) _)) (above_l1 (by decide) _)) (above_wfrs (by decide) _)) Q _) $$ [HO Hc Hat]
  · isplitr; · iexact HR
    isplitr; · iexact Hlev
    isplitl [HO]; · iexact HO
    isplitl [Hc] <;> iassumption
  iintro ⟨HO, Hz, Hp⟩
  unfold payB
  ihave Hp := (Entails.of_eq (zip4 (fun d => ptsE (wfSlotM c) d) (fun d => ptsE (wfFullM c) d) (fun d => ptsE (l1SlotM c) d) (fun d => ptsE (h3FullM c) d)).symm) $$ Hp
  iapply Hk
  isplitl [HO]; · iexact HO
  isplitl [Hz]; · iexact Hz
  iexact Hp

/-- The zero offset of rank two. -/
theorem hz2 : (![0, 0] : Fin 2 → Nat) = fun _ => 0 := funext fun a => by fin_cases a <;> rfl
/-- The zero offset of rank three. -/
theorem hz3 : (![0, 0, 0] : Fin 3 → Nat) = fun _ => 0 := funext fun a => by fin_cases a <;> rfl

/-- Any set of a buffer's elements lies in the whole buffer. -/
theorem sub_whole (b : Ref sig .tc) (S : Finset (b.ty.Idx)) : S ⊆ (Memref.whole b).view.set :=
  (Finset.subset_univ S).trans (Finset.subset_of_eq (View.set_whole b).symm)

end

end Cert.MlpProof

end
-- ==== Proof.Run.lean ====
/-
# The body run, its later phases

From the weight products to the result, and the whole body.
-/
module

public import proofs.«01_k».proof.Proof.Body

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 16 → ℕ)

/-- A window's contents count on the window alone. -/
theorem pts_congr {sp : Space} {s : Shape} {e : EltTy} (v : Memref sig .tc sp s e) (c : Dev nD) (q : PosShare TreeShare) (f g : Buf (Elt F) (v.view.loc (c : Thread nD τ)))
    (h : ∀ i ∈ v.view.set, f i = g i) : (pts v c q f : sProp 𝕄) = pts v c q g := by
  unfold pts; exact pointsTo_congr h

/-- A finished program meets its condition. -/
theorem ret_step (c : Dev nD) (Q : PUnit → sProp 𝕄) : Q ⟨⟩ ⊢ WP c Q (.ret ⟨⟩) := by
  unfold WP; rw [wp_ret]; exact fupd_intro

/-- What a fetch leaves: its semaphore at zero, the array and the filled buffer. -/
def fret (c : Dev nD) (q : DmaSem sig) : sProp 𝕄 := iprop(semVal (dCell c q) 0 ∗ payD m c q.val 0)

/-! ## The sends, each with its windows -/

/-- The copy of a window of the weight products to device `d`. -/
theorem step_wfrs (c : Dev nD) (Q : PUnit → sProp 𝕄) (d : Dev nD) (O : CellTallies nD τ sig Unit) (k : PUnit → PU F) :
    iprop(records m K ∗ sendP c d wfrsS wfrsR (wfSrcM d) (wfSlotM c) fullShare (wfSrcC m c) ∗ ow c (O + tallyAt (dCell d wfrsR) () N16))
      ⊢ iprop(((cred (tallyAt (dCell c wfrsS) () N16) ∗ ow c O) -∗ WP c Q (k ⟨⟩)) -∗ WP c Q (.op (wfrsE c d) k)) :=
  send_step m K c d wfrsS wfrsR (by decide) (by decide) N16 rfl rfl (wfSrcM d) (wfSlotD c) (wfSlotM c) (wfSlotD_eq c) rfl fullShare (wfSrcC m c) (BI.Entails.refl _)
    (fun fd => Entails.of_eq (pts_congr (wfSlotM c) d fullShare _ (slotsC m d) (landed_wfrs m c d fd))) Q O k
/-- The copy of a window of the first layer's products to device `d`. -/
theorem step_l1 (c : Dev nD) (Q : PUnit → sProp 𝕄) (d : Dev nD) (O : CellTallies nD τ sig Unit) (k : PUnit → PU F) :
    iprop(records m K ∗ sendP c d l1S l1R (p1M d) (l1SlotM c) fullShare (p1C m c) ∗ ow c (O + tallyAt (dCell d l1R) () N4))
      ⊢ iprop(((cred (tallyAt (dCell c l1S) () N4) ∗ ow c O) -∗ WP c Q (k ⟨⟩)) -∗ WP c Q (.op (l1E c d) k)) :=
  send_step m K c d l1S l1R (by decide) (by decide) N4 rfl rfl (p1M d) (l1SlotD c) (l1SlotM c) (l1SlotD_eq c) rfl fullShare (p1C m c) (BI.Entails.refl _)
    (fun fd => Entails.of_eq (pts_congr (l1SlotM c) d fullShare _ (l1C m d) (landed_l1 m c d fd))) Q O k
/-- The copy of the summed weight products to device `d`. -/
theorem step_wfag (c : Dev nD) (Q : PUnit → sProp 𝕄) (d : Dev nD) (O : CellTallies nD τ sig Unit) (k : PUnit → PU F) :
    iprop(records m K ∗ sendP c d wfagS wfagR wfRedM (wfFullM c) (lent d) (redC m c) ∗ ow c (O + tallyAt (dCell d wfagR) () N16))
      ⊢ iprop(((cred (tallyAt (dCell c wfagS) () N16) ∗ ow c O) -∗ WP c Q (k ⟨⟩)) -∗ WP c Q (.op (wfagE c d) k)) :=
  send_step m K c d wfagS wfagR (by decide) (by decide) N16 rfl rfl wfRedM (wfFullD c) (wfFullM c) (wfFullD_eq c) rfl (lent d) (redC m c) (BI.Entails.refl _)
    (fun fd => Entails.of_eq (pts_congr (wfFullM c) d fullShare _ (fullC m) (landed_wfag m c fd))) Q O k
/-- The copy of the third layer's rows to device `d`. -/
theorem step_ag3 (c : Dev nD) (Q : PUnit → sProp 𝕄) (d : Dev nD) (O : CellTallies nD τ sig Unit) (k : PUnit → PU F) :
    iprop(records m K ∗ sendP c d ag3S ag3R h3RedM (h3FullM c) (lent d) (h3redC m c) ∗ ow c (O + tallyAt (dCell d ag3R) () N4))
      ⊢ iprop(((cred (tallyAt (dCell c ag3S) () N4) ∗ ow c O) -∗ WP c Q (k ⟨⟩)) -∗ WP c Q (.op (ag3E c d) k)) :=
  send_step m K c d ag3S ag3R (by decide) (by decide) N4 rfl rfl h3RedM (h3FullD c) (h3FullM c) (h3FullD_eq c) rfl (lent d) (h3redC m c) (BI.Entails.refl _)
    (fun fd => Entails.of_eq (pts_congr (h3FullM c) d fullShare _ (h3C m) (landed_ag3 m c fd))) Q O k

/-! ## The weight products -/

/-- Four fetches are awaited, the two weight products are stored, and their windows are sent. -/
theorem run_wf (c : Dev nD) (Q : PUnit → sProp 𝕄) :
    iprop(records m K ∗ levAts L lv ∗ ow c O₁ ∗ (fq c (inS 0) ∗ fat c (inS 0)) ∗ (fq c (inS 1) ∗ fat c (inS 1)) ∗ (fq c (inS 2) ∗ fat c (inS 2)) ∗ (fq c (inS 3) ∗ fat c (inS 3))
        ∗ ptsE (Memref.whole cc0_scratch8) c ∗ (bigSep Finset.univ fun d => ptsE (wfSlotM c) d) ∗ stok c wfrsS ∗ rtok c wfrsR)
      ⊢ iprop(((ow c (owAg3 devs + owWfag devs + owL1 devs) ∗ fret m c (inS 0) ∗ fret m c (inS 1) ∗ fret m c (inS 2) ∗ fret m c (inS 3) ∗ cred (tallyAt (dCell c wfrsS) () (N16 * 32)))
          -∗ WP c Q (phP1 c)) -∗ WP c Q (phWf c)) := by
  unfold phWf fq fat fret
  iintro ⟨#HR, #Hlev, HO, H0, H1, H2, H3, H8, Hw, Hs, Hr⟩ Hk
  have hO₁ : Above 0 O₁ := above_add (above_add (above_add (above_ag3 (by decide) _) (above_wfag (by decide) _)) (above_l1 (by decide) _)) (above_wfrs (by decide) _)
  iapply (fetchW_step m K c (inS 0) (by decide) (by decide) O₁ hO₁ Q (wpE_waitDma2_eq 𝒱₀ (c : Thread nD τ) none Set.univ) _) $$ [HO H0]
  · isplitr; · iexact HR
    isplitr; · iexact Hlev
    isplitl [HO] <;> iassumption
  iintro ⟨HO, Hz0, H0⟩
  iapply (fetchW_step m K c (inS 1) (by decide) (by decide) O₁ hO₁ Q (wpE_waitDma2_eq 𝒱₀ (c : Thread nD τ) none Set.univ) _) $$ [HO H1]
  · isplitr; · iexact HR
    isplitr; · iexact Hlev
    isplitl [HO] <;> iassumption
  iintro ⟨HO, Hz1, H1⟩
  ihave H0 := (Entails.of_eq (show payD m c (inS 0).val 0 = iprop(pts (Memref.whole cc0_scratch2) c fullShare (wout0C m c) ∗ pts (Memref.whole main_arg4) c fullShare (wout0C m c)) from rfl)) $$ H0
  ihave H1 := (Entails.of_eq (show payD m c (inS 1).val 0 = iprop(pts (Memref.whole cc0_scratch3) c fullShare (win1C m c) ∗ pts (Memref.whole main_arg2) c fullShare (win1C m c)) from rfl)) $$ H1
  icases H0 with ⟨H0, Ha0⟩
  icases H1 with ⟨H1, Ha1⟩
  iapply (load_step (Memref.whole cc0_scratch2) _ c fullShare (wout0C m c) (wout0C m c) (Memref.readAt_unit_zero (Elt F) cc0_scratch2 hz2 _ _) Q _) $$ H0; iintro H0
  iapply (load_step (Memref.whole cc0_scratch3) _ c fullShare (win1C m c) (win1C m c) (Memref.readAt_unit_zero (Elt F) cc0_scratch3 hz2 _ _) Q _) $$ H1; iintro H1
  unfold ptsE
  icases H8 with ⟨%f8, H8⟩
  iapply (load_step (Memref.whole cc0_scratch8) _ c fullShare f8 _ rfl Q _) $$ H8; iintro H8
  iapply (store_step (Memref.whole cc0_scratch8) _ c f8 _ rfl Q _ (sub_whole cc0_scratch8 _)) $$ H8; iintro H8
  iapply (fetchW_step m K c (inS 2) (by decide) (by decide) O₁ hO₁ Q (wpE_waitDma2_eq 𝒱₀ (c : Thread nD τ) none Set.univ) _) $$ [HO H2]
  · isplitr; · iexact HR
    isplitr; · iexact Hlev
    isplitl [HO] <;> iassumption
  iintro ⟨HO, Hz2, H2⟩
  iapply (fetchW_step m K c (inS 3) (by decide) (by decide) O₁ hO₁ Q (wpE_waitDma2_eq 𝒱₀ (c : Thread nD τ) none Set.univ) _) $$ [HO H3]
  · isplitr; · iexact HR
    isplitr; · iexact Hlev
    isplitl [HO] <;> iassumption
  iintro ⟨HO, Hz3, H3⟩
  ihave H2 := (Entails.of_eq (show payD m c (inS 2).val 0 = iprop(pts (Memref.whole cc0_scratch4) c fullShare (wout1C m c) ∗ pts (Memref.whole main_arg5) c fullShare (wout1C m c)) from rfl)) $$ H2
  ihave H3 := (Entails.of_eq (show payD m c (inS 3).val 0 = iprop(pts (Memref.whole cc0_scratch5) c fullShare (win2C m c) ∗ pts (Memref.whole main_arg3) c fullShare (win2C m c)) from rfl)) $$ H3
  icases H2 with ⟨H2, Ha2⟩
  icases H3 with ⟨H3, Ha3⟩
  iapply (load_step (Memref.whole cc0_scratch4) _ c fullShare (wout1C m c) (wout1C m c) (Memref.readAt_unit_zero (Elt F) cc0_scratch4 hz2 _ _) Q _) $$ H2; iintro H2
  iapply (load_step (Memref.whole cc0_scratch5) _ c fullShare (win2C m c) (win2C m c) (Memref.readAt_unit_zero (Elt F) cc0_scratch5 hz2 _ _) Q _) $$ H3; iintro H3
  iapply (load_step (Memref.whole cc0_scratch8) _ c fullShare _ _ rfl Q _) $$ H8; iintro H8
  iapply (store_step (Memref.whole cc0_scratch8) _ c _ (wfSrcC m c) (write_halves f8 _ _) Q _ (sub_whole cc0_scratch8 _)) $$ H8; iintro H8
  ihave H8 := (Entails.of_eq (split_wfSrc c (wfSrcC m c))) $$ H8
  iapply (send_all m K c wfrsS wfrsR N16 (wfrsE c) (fun d => sendP c d wfrsS wfrsR (wfSrcM d) (wfSlotM c) fullShare (wfSrcC m c)) Q (owAg3 devs + owWfag devs + owL1 devs) (step_wfrs m K c Q) _) $$ [HO H8 Hw Hs Hr]
  · isplitr; · iexact HR
    isplitr [HO]
    · iapply (sends_intro c wfrsS wfrsR (fun d => wfSrcM d) (wfSlotM c) (fun _ => fullShare) (fun _ => wfSrcC m c))
      isplitl [H8]; · iexact H8
      isplitl [Hw]; · unfold ptsE; iexact Hw
      isplitl [Hs] <;> iassumption
    iexact HO
  iintro ⟨Hc, HO⟩
  iapply Hk
  isplitl [HO]; · iexact HO
  isplitl [Hz0 H0 Ha0]
  · isplitl [Hz0]; · iexact Hz0
    iapply (Entails.of_eq (show payD m c (inS 0).val 0 = iprop(pts (Memref.whole cc0_scratch2) c fullShare (wout0C m c) ∗ pts (Memref.whole main_arg4) c fullShare (wout0C m c)) from rfl).symm)
    isplitl [H0] <;> iassumption
  isplitl [Hz1 H1 Ha1]
  · isplitl [Hz1]; · iexact Hz1
    iapply (Entails.of_eq (show payD m c (inS 1).val 0 = iprop(pts (Memref.whole cc0_scratch3) c fullShare (win1C m c) ∗ pts (Memref.whole main_arg2) c fullShare (win1C m c)) from rfl).symm)
    isplitl [H1] <;> iassumption
  isplitl [Hz2 H2 Ha2]
  · isplitl [Hz2]; · iexact Hz2
    iapply (Entails.of_eq (show payD m c (inS 2).val 0 = iprop(pts (Memref.whole cc0_scratch4) c fullShare (wout1C m c) ∗ pts (Memref.whole main_arg5) c fullShare (wout1C m c)) from rfl).symm)
    isplitl [H2] <;> iassumption
  isplitl [Hz3 H3 Ha3]
  · isplitl [Hz3]; · iexact Hz3
    iapply (Entails.of_eq (show payD m c (inS 3).val 0 = iprop(pts (Memref.whole cc0_scratch5) c fullShare (win2C m c) ∗ pts (Memref.whole main_arg3) c fullShare (win2C m c)) from rfl).symm)
    isplitl [H3] <;> iassumption
  iexact Hc

/-! ## The first layer's partial sums -/

/-- Two more fetches are awaited, the first layer's products are stored, and their windows are sent. -/
theorem run_p1 (c : Dev nD) (Q : PUnit → sProp 𝕄) :
    iprop(records m K ∗ levAts L lv ∗ ow c (owAg3 devs + owWfag devs + owL1 devs) ∗ (fq c (inS 4) ∗ fat c (inS 4)) ∗ (fq c (inS 5) ∗ fat c (inS 5))
        ∗ ptsE (Memref.whole cc0_scratch7) c ∗ (bigSep Finset.univ fun d => ptsE (l1SlotM c) d) ∗ stok c l1S ∗ rtok c l1R)
      ⊢ iprop(((ow c (owAg3 devs + owWfag devs) ∗ fret m c (inS 4) ∗ fret m c (inS 5) ∗ cred (tallyAt (dCell c l1S) () (N4 * 32)))
          -∗ WP c Q (phRed c)) -∗ WP c Q (phP1 c)) := by
  unfold phP1 fq fat fret
  iintro ⟨#HR, #Hlev, HO, H0, H1, H8, Hw, Hs, Hr⟩ Hk
  have hO : Above 0 (owAg3 devs + owWfag devs + owL1 devs) := above_add (above_add (above_ag3 (by decide) _) (above_wfag (by decide) _)) (above_l1 (by decide) _)
  iapply (fetchW_step m K c (inS 4) (by decide) (by decide) _ hO Q (wpE_waitDma2_eq 𝒱₀ (c : Thread nD τ) none Set.univ) _) $$ [HO H0]
  · isplitr; · iexact HR
    isplitr; · iexact Hlev
    isplitl [HO] <;> iassumption
  iintro ⟨HO, Hz0, H0⟩
  iapply (fetchW_step m K c (inS 5) (by decide) (by decide) _ hO Q (wpE_waitDma2_eq 𝒱₀ (c : Thread nD τ) none Set.univ) _) $$ [HO H1]
  · isplitr; · iexact HR
    isplitr; · iexact Hlev
    isplitl [HO] <;> iassumption
  iintro ⟨HO, Hz1, H1⟩
  ihave H0 := (Entails.of_eq (show payD m c (inS 4).val 0 = iprop(pts (Memref.whole cc0_scratch0) c fullShare (xC m c) ∗ pts (Memref.whole main_arg0) c fullShare (xC m c)) from rfl)) $$ H0
  ihave H1 := (Entails.of_eq (show payD m c (inS 5).val 0 = iprop(pts (Memref.whole cc0_scratch1) c fullShare (win0C m c) ∗ pts (Memref.whole main_arg1) c fullShare (win0C m c)) from rfl)) $$ H1
  icases H0 with ⟨H0, Ha0⟩
  icases H1 with ⟨H1, Ha1⟩
  iapply (load_step (Memref.whole cc0_scratch0) _ c fullShare (xC m c) (xC m c) (Memref.readAt_unit_zero (Elt F) cc0_scratch0 hz2 _ _) Q _) $$ H0; iintro H0
  iapply (load_step (Memref.whole cc0_scratch1) _ c fullShare (win0C m c) (win0C m c) (Memref.readAt_unit_zero (Elt F) cc0_scratch1 hz2 _ _) Q _) $$ H1; iintro H1
  unfold ptsE
  icases H8 with ⟨%f8, H8⟩
  iapply (load_step (Memref.whole cc0_scratch7) _ c fullShare f8 _ rfl Q _) $$ H8; iintro H8
  iapply (store_step (Memref.whole cc0_scratch7) _ c f8 (p1C m c) (Memref.write_access_unit_zero_univ (Elt F) cc0_scratch7 hz2 _ f8 (p1C m c)) Q _ (sub_whole cc0_scratch7 _)) $$ H8; iintro H8
  ihave H8 := (Entails.of_eq (split_p1 c (p1C m c))) $$ H8
  iapply (send_all m K c l1S l1R N4 (l1E c) (fun d => sendP c d l1S l1R (p1M d) (l1SlotM c) fullShare (p1C m c)) Q (owAg3 devs + owWfag devs) (step_l1 m K c Q) _) $$ [HO H8 Hw Hs Hr]
  · isplitr; · iexact HR
    isplitr [HO]
    · iapply (sends_intro c l1S l1R (fun d => p1M d) (l1SlotM c) (fun _ => fullShare) (fun _ => p1C m c))
      isplitl [H8]; · iexact H8
      isplitl [Hw]; · unfold ptsE; iexact Hw
      isplitl [Hs] <;> iassumption
    iexact HO
  iintro ⟨Hc, HO⟩
  iapply Hk
  isplitl [HO]; · iexact HO
  isplitl [Hz0 H0 Ha0]
  · isplitl [Hz0]; · iexact Hz0
    iapply (Entails.of_eq (show payD m c (inS 4).val 0 = iprop(pts (Memref.whole cc0_scratch0) c fullShare (xC m c) ∗ pts (Memref.whole main_arg0) c fullShare (xC m c)) from rfl).symm)
    isplitl [H0] <;> iassumption
  isplitl [Hz1 H1 Ha1]
  · isplitl [Hz1]; · iexact Hz1
    iapply (Entails.of_eq (show payD m c (inS 5).val 0 = iprop(pts (Memref.whole cc0_scratch1) c fullShare (win0C m c) ∗ pts (Memref.whole main_arg1) c fullShare (win0C m c)) from rfl).symm)
    isplitl [H1] <;> iassumption
  iexact Hc

/-! ## The weight products reduced and gathered -/

/-- The weight products of all devices arrive, are summed, and the sums are sent to all. -/
theorem run_red (c : Dev nD) (Q : PUnit → sProp 𝕄) :
    iprop(records m K ∗ levAts L lv ∗ ow c (owAg3 devs + owWfag devs) ∗ wq c wfrsR N16
        ∗ ptsE (Memref.whole cc0_scratch10) c ∗ (bigSep Finset.univ fun d => ptsE (wfFullM c) d) ∗ stok c wfagS ∗ rtok c wfagR)
      ⊢ iprop(((ow c (owAg3 devs) ∗ semVal (dCell c wfrsR) 0 ∗ pts (Memref.whole cc0_scratch9) c fullShare (slotsC m c) ∗ cred (tallyAt (dCell c wfagS) () (N16 * 32)))
          -∗ WP c Q (phH1 c)) -∗ WP c Q (phRed c)) := by
  unfold phRed wq
  iintro ⟨#HR, #Hlev, HO, H9, H10, Hw, Hs, Hr⟩ Hk
  iapply (wait_all m K c wfrsR (by decide) N16 rfl _ (show Above 2 (owAg3 devs + owWfag devs) from above_add (above_ag3 (by decide) _) (above_wfag (by decide) _)) Q wfrsWR (fun d => wpE_waitDma2_eq 𝒱₀ (c : Thread nD τ) none Set.univ) _) $$ [HO H9]
  · isplitr; · iexact HR
    isplitr; · iexact Hlev
    isplitl [HO] <;> iassumption
  iintro ⟨HO, Hz, H9⟩
  ihave H9 := (Entails.of_eq (show (bigSep Finset.univ fun d => payD m c wfrsR.val d : sProp 𝕄) = pts (Memref.whole cc0_scratch9) c fullShare (slotsC m c) from (split_wfSlot c (slotsC m c)).symm)) $$ H9
  iapply (load_step (Memref.whole cc0_scratch9) _ c fullShare (slotsC m c) (slotsC m c) (Memref.readAt_unit_zero (Elt F) cc0_scratch9 hz3 _ _) Q _) $$ H9; iintro H9
  unfold ptsE
  icases H10 with ⟨%f, H10⟩
  iapply (load_step (Memref.whole cc0_scratch10) _ c fullShare f _ rfl Q _) $$ H10; iintro H10
  iapply (store_step (Memref.whole cc0_scratch10) _ c f (redC m c) (Memref.write_access_unit_zero_univ (Elt F) cc0_scratch10 hz2 _ f (redC m c)) Q _ (sub_whole cc0_scratch10 _)) $$ H10; iintro H10
  ihave H10 := (Entails.of_eq (split_lent (Memref.whole cc0_scratch10) c (redC m c))) $$ H10
  iapply (send_all m K c wfagS wfagR N16 (wfagE c) (fun d => sendP c d wfagS wfagR wfRedM (wfFullM c) (lent d) (redC m c)) Q (owAg3 devs) (step_wfag m K c Q) _) $$ [HO H10 Hw Hs Hr]
  · isplitr; · iexact HR
    isplitr [HO]
    · iapply (sends_intro c wfagS wfagR (fun d => wfRedM) (wfFullM c) lent (fun _ => redC m c))
      isplitl [H10]; · iexact H10
      isplitl [Hw]; · unfold ptsE; iexact Hw
      isplitl [Hs] <;> iassumption
    iexact HO
  iintro ⟨Hc, HO⟩
  iapply Hk
  isplitl [HO]; · iexact HO
  isplitl [Hz]; · iexact Hz
  isplitl [H9] <;> iassumption

/-! ## The layers -/

/-- The first layer's products and the gathered weight products arrive. -/
theorem run_h1 (c : Dev nD) (Q : PUnit → sProp 𝕄) :
    iprop(records m K ∗ levAts L lv ∗ ow c (owAg3 devs) ∗ wq c l1R N4 ∗ wq c wfagR N16)
      ⊢ iprop(((ow c (owAg3 devs) ∗ semVal (dCell c l1R) 0 ∗ pts (Memref.whole cc0_scratch12) c fullShare (l1C m c) ∗ semVal (dCell c wfagR) 0 ∗ pts (Memref.whole cc0_scratch11) c fullShare (fullC m))
          -∗ WP c Q (phH3 c (h1C m c))) -∗ WP c Q (phH1 c)) := by
  unfold phH1 wq
  iintro ⟨#HR, #Hlev, HO, H12, H11⟩ Hk
  iapply (wait_all m K c l1R (by decide) N4 rfl _ (show Above 2 (owAg3 devs) from above_ag3 (by decide) _) Q l1WR (fun d => wpE_waitDma2_eq 𝒱₀ (c : Thread nD τ) none Set.univ) _) $$ [HO H12]
  · isplitr; · iexact HR
    isplitr; · iexact Hlev
    isplitl [HO] <;> iassumption
  iintro ⟨HO, Hz, H12⟩
  ihave H12 := (Entails.of_eq (show (bigSep Finset.univ fun d => payD m c l1R.val d : sProp 𝕄) = pts (Memref.whole cc0_scratch12) c fullShare (l1C m c) from (split_l1Slot c (l1C m c)).symm)) $$ H12
  iapply (load_step (Memref.whole cc0_scratch12) _ c fullShare (l1C m c) (l1C m c) (Memref.readAt_unit_zero (Elt F) cc0_scratch12 hz3 _ _) Q _) $$ H12; iintro H12
  iapply (wait_all m K c wfagR (by decide) N16 rfl _ (show Above 3 (owAg3 devs) from above_ag3 (by decide) _) Q wfagWR (fun d => wpE_waitDma2_eq 𝒱₀ (c : Thread nD τ) none Set.univ) _) $$ [HO H11]
  · isplitr; · iexact HR
    isplitr; · iexact Hlev
    isplitl [HO] <;> iassumption
  iintro ⟨HO, Hz', H11⟩
  ihave H11 := (Entails.of_eq (show (bigSep Finset.univ fun d => payD m c wfagR.val d : sProp 𝕄) = pts (Memref.whole cc0_scratch11) c fullShare (fullC m) from (split_wfFull c (fullC m)).symm)) $$ H11
  iapply Hk
  isplitl [HO]; · iexact HO
  isplitl [Hz]; · iexact Hz
  isplitl [H12]; · iexact H12
  isplitl [Hz'] <;> iassumption

/-- The second and the third layer are computed and stored. -/
theorem run_h3 (c : Dev nD) (Q : PUnit → sProp 𝕄) :
    iprop(pts (Memref.whole cc0_scratch11) c fullShare (fullC m) ∗ ptsE (Memref.whole cc0_scratch13) c)
      ⊢ iprop(((pts (Memref.whole cc0_scratch11) c fullShare (fullC m) ∗ pts (Memref.whole cc0_scratch13) c fullShare (h3redC m c)) -∗ WP c Q (phAg3 c)) -∗ WP c Q (phH3 c (h1C m c))) := by
  unfold phH3 ptsE
  iintro ⟨H11, ⟨%f, H13⟩⟩ Hk
  iapply (load_step (Memref.whole cc0_scratch11) _ c fullShare (fullC m) (topC m) (read_top m) Q _) $$ H11; iintro H11
  iapply (load_step (Memref.whole cc0_scratch11) _ c fullShare (fullC m) (botC m) (read_bot m) Q _) $$ H11; iintro H11
  iapply (load_step (Memref.whole cc0_scratch13) _ c fullShare f _ rfl Q _) $$ H13; iintro H13
  iapply (store_step (Memref.whole cc0_scratch13) _ c f (h3redC m c) (Memref.write_access_unit_zero_univ (Elt F) cc0_scratch13 hz2 _ f (h3redC m c)) Q _ (sub_whole cc0_scratch13 _)) $$ H13; iintro H13
  iapply Hk
  isplitl [H11] <;> iassumption

/-- The third layer's rows are sent to all, and the whole layer arrives. -/
theorem run_ag3 (c : Dev nD) (Q : PUnit → sProp 𝕄) :
    iprop(records m K ∗ levAts L lv ∗ ow c (owAg3 devs) ∗ wq c ag3R N4
        ∗ pts (Memref.whole cc0_scratch13) c fullShare (h3redC m c) ∗ (bigSep Finset.univ fun d => ptsE (h3FullM c) d) ∗ stok c ag3S ∗ rtok c ag3R)
      ⊢ iprop(((ow c 0 ∗ semVal (dCell c ag3R) 0 ∗ pts (Memref.whole cc0_scratch14) c fullShare (h3C m) ∗ cred (tallyAt (dCell c ag3S) () (N4 * 32)))
          -∗ WP c Q (phOut c)) -∗ WP c Q (phAg3 c)) := by
  unfold phAg3 wq
  iintro ⟨#HR, #Hlev, HO, H14, H13, Hw, Hs, Hr⟩ Hk
  ihave H13 := (Entails.of_eq (split_lent (Memref.whole cc0_scratch13) c (h3redC m c))) $$ H13
  ihave HO := (Entails.of_eq (show (ow c (owAg3 devs) : sProp 𝕄) = ow c (0 + owAg3 devs) from by rw [zero_add])) $$ HO
  iapply (send_all m K c ag3S ag3R N4 (ag3E c) (fun d => sendP c d ag3S ag3R h3RedM (h3FullM c) (lent d) (h3redC m c)) Q 0 (step_ag3 m K c Q) _) $$ [HO H13 Hw Hs Hr]
  · isplitr; · iexact HR
    isplitr [HO]
    · iapply (sends_intro c ag3S ag3R (fun d => h3RedM) (h3FullM c) lent (fun _ => h3redC m c))
      isplitl [H13]; · iexact H13
      isplitl [Hw]; · iexact Hw
      isplitl [Hs] <;> iassumption
    iexact HO
  iintro ⟨Hc, HO⟩
  iapply (wait_all m K c ag3R (by decide) N4 rfl _ (above_zero _) Q ag3WR (fun d => wpE_waitDma2_eq 𝒱₀ (c : Thread nD τ) none Set.univ) _) $$ [HO H14]
  · isplitr; · iexact HR
    isplitr; · iexact Hlev
    isplitl [HO] <;> iassumption
  iintro ⟨HO, Hz, H14⟩
  ihave H14 := (Entails.of_eq (show (bigSep Finset.univ fun d => payD m c ag3R.val d : sProp 𝕄) = pts (Memref.whole cc0_scratch14) c fullShare (h3C m) from (split_h3Full c (h3C m)).symm)) $$ H14
  iapply Hk
  isplitl [HO]; · iexact HO
  isplitl [Hz]; · iexact Hz
  isplitl [H14] <;> iassumption

/-- The last fetch is awaited and the result is stored. -/
theorem run_out (c : Dev nD) (Q : PUnit → sProp 𝕄) :
    iprop(records m K ∗ levAts L lv ∗ ow c 0 ∗ (fq c (inS 6) ∗ fat c (inS 6)) ∗ pts (Memref.whole cc0_scratch14) c fullShare (h3C m) ∗ ptsE (Memref.whole cc0_stg0_0) c)
      ⊢ iprop(((ow c 0 ∗ fret m c (inS 6) ∗ pts (Memref.whole cc0_scratch14) c fullShare (h3C m) ∗ pts (Memref.whole cc0_stg0_0) c fullShare (outC m c))
          -∗ WP c Q (tail c)) -∗ WP c Q (phOut c)) := by
  unfold phOut fq fat fret ptsE
  iintro ⟨#HR, #Hlev, HO, H0, H14, ⟨%f, Ho⟩⟩ Hk
  iapply (fetchW_step m K c (inS 6) (by decide) (by decide) _ (above_zero _) Q (wpE_waitDma2_eq 𝒱₀ (c : Thread nD τ) none Set.univ) _) $$ [HO H0]
  · isplitr; · iexact HR
    isplitr; · iexact Hlev
    isplitl [HO] <;> iassumption
  iintro ⟨HO, Hz0, H0⟩
  ihave H0 := (Entails.of_eq (show payD m c (inS 6).val 0 = iprop(pts (Memref.whole cc0_scratch6) c fullShare (wout2C m c) ∗ pts (Memref.whole main_arg6) c fullShare (wout2C m c)) from rfl)) $$ H0
  icases H0 with ⟨H0, Ha0⟩
  iapply (load_step (Memref.whole cc0_scratch14) _ c fullShare (h3C m) (h3C m) (Memref.readAt_unit_zero (Elt F) cc0_scratch14 hz2 _ _) Q _) $$ H14; iintro H14
  iapply (load_step (Memref.whole cc0_scratch6) _ c fullShare (wout2C m c) (wout2C m c) (Memref.readAt_unit_zero (Elt F) cc0_scratch6 hz2 _ _) Q _) $$ H0; iintro H0
  iapply (load_step (Memref.whole cc0_stg0_0) _ c fullShare f _ rfl Q _) $$ Ho; iintro Ho
  iapply (store_step (Memref.whole cc0_stg0_0) _ c f (outC m c) (Memref.write_access_unit_zero_univ (Elt F) cc0_stg0_0 hz2 _ f (outC m c)) Q _ (sub_whole cc0_stg0_0 _)) $$ Ho; iintro Ho
  iapply Hk
  isplitl [HO]; · iexact HO
  isplitl [Hz0 H0 Ha0]
  · isplitl [Hz0]; · iexact Hz0
    iapply (Entails.of_eq (show payD m c (inS 6).val 0 = iprop(pts (Memref.whole cc0_scratch6) c fullShare (wout2C m c) ∗ pts (Memref.whole main_arg6) c fullShare (wout2C m c)) from rfl).symm)
    isplitl [H0] <;> iassumption
  isplitl [H14] <;> iassumption

/-- The copies sent are awaited; every source is whole again. -/
theorem run_tail (c : Dev nD) (Q : PUnit → sProp 𝕄) :
    iprop(records m K ∗ levAts L lv ∗ ow c 0 ∗ wq c wfrsS N16 ∗ wq c wfagS N16 ∗ wq c l1S N4 ∗ wq c ag3S N4)
      ⊢ iprop(((ow c 0 ∗ (semVal (dCell c wfrsS) 0 ∗ pts (Memref.whole cc0_scratch8) c fullShare (wfSrcC m c)) ∗ (semVal (dCell c wfagS) 0 ∗ pts (Memref.whole cc0_scratch10) c fullShare (redC m c))
            ∗ (semVal (dCell c l1S) 0 ∗ pts (Memref.whole cc0_scratch7) c fullShare (p1C m c)) ∗ (semVal (dCell c ag3S) 0 ∗ pts (Memref.whole cc0_scratch13) c fullShare (h3redC m c))) -∗ Q ⟨⟩)
        -∗ WP c Q (tail c)) := by
  unfold tail
  iintro ⟨#HR, #Hlev, HO, H1, H2, H3, H4⟩ Hk
  iapply (wait_all4 m K c wfrsS wfagS l1S ag3S (by decide) (by decide) (by decide) (by decide) N16 N16 N4 N4 rfl rfl rfl rfl Q (wfrsWS c) (wfagWS c) (l1WS c) (ag3WS c)
    (fun d => wpE_waitDma2_eq 𝒱₀ (c : Thread nD τ) none Set.univ) (fun d => wpE_waitDma2_eq 𝒱₀ (c : Thread nD τ) none Set.univ) (fun d => wpE_waitDma2_eq 𝒱₀ (c : Thread nD τ) none Set.univ)
    (fun d => wpE_waitDma2_eq 𝒱₀ (c : Thread nD τ) none Set.univ) _) $$ [HO H1 H2 H3 H4]
  · isplitr; · iexact HR
    isplitr; · iexact Hlev
    isplitl [HO]; · iexact HO
    isplitl [H1]; · iexact H1
    isplitl [H2]; · iexact H2
    isplitl [H3] <;> iassumption
  iintro ⟨HO, ⟨Hz1, H1⟩, ⟨Hz2, H2⟩, ⟨Hz3, H3⟩, ⟨Hz4, H4⟩⟩
  ihave H1 := (Entails.of_eq (show (bigSep Finset.univ fun d => payD m c wfrsS.val d : sProp 𝕄) = pts (Memref.whole cc0_scratch8) c fullShare (wfSrcC m c) from (split_wfSrc c (wfSrcC m c)).symm)) $$ H1
  ihave H2 := (Entails.of_eq (show (bigSep Finset.univ fun d => payD m c wfagS.val d : sProp 𝕄) = pts (Memref.whole cc0_scratch10) c fullShare (redC m c) from (split_lent (Memref.whole cc0_scratch10) c (redC m c)).symm)) $$ H2
  ihave H3 := (Entails.of_eq (show (bigSep Finset.univ fun d => payD m c l1S.val d : sProp 𝕄) = pts (Memref.whole cc0_scratch7) c fullShare (p1C m c) from (split_p1 c (p1C m c)).symm)) $$ H3
  ihave H4 := (Entails.of_eq (show (bigSep Finset.univ fun d => payD m c ag3S.val d : sProp 𝕄) = pts (Memref.whole cc0_scratch13) c fullShare (h3redC m c) from (split_lent (Memref.whole cc0_scratch13) c (h3redC m c)).symm)) $$ H4
  iapply (ret_step c Q)
  iapply Hk
  isplitl [HO]; · iexact HO
  isplitl [Hz1 H1]; · isplitl [Hz1] <;> iassumption
  isplitl [Hz2 H2]; · isplitl [Hz2] <;> iassumption
  isplitl [Hz3 H3]; · isplitl [Hz3] <;> iassumption
  isplitl [Hz4] <;> iassumption

end Cert.MlpProof

end
-- ==== Proof.Whole.lean ====
/-
# The whole body

What a device's body starts from, what it leaves, and that it gets from one to the other.
-/
module

public import proofs.«01_k».proof.Proof.Run

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 16 → ℕ)

/-- The seven argument arrays of a device, as launched. -/
def argsP (c : Dev nD) : sProp 𝕄 :=
  iprop(pts (Memref.whole main_arg0) c fullShare (xC m c) ∗ pts (Memref.whole main_arg1) c fullShare (win0C m c) ∗ pts (Memref.whole main_arg2) c fullShare (win1C m c) ∗ pts (Memref.whole main_arg3) c fullShare (win2C m c) ∗ pts (Memref.whole main_arg4) c fullShare (wout0C m c) ∗ pts (Memref.whole main_arg5) c fullShare (wout1C m c) ∗ pts (Memref.whole main_arg6) c fullShare (wout2C m c))
/-- The fifteen scratch buffers of a device. -/
def scrP (c : Dev nD) : sProp 𝕄 :=
  iprop(ptsE (Memref.whole cc0_scratch0) c ∗ ptsE (Memref.whole cc0_scratch1) c ∗ ptsE (Memref.whole cc0_scratch2) c ∗ ptsE (Memref.whole cc0_scratch3) c ∗ ptsE (Memref.whole cc0_scratch4) c ∗ ptsE (Memref.whole cc0_scratch5) c ∗ ptsE (Memref.whole cc0_scratch6) c ∗ ptsE (Memref.whole cc0_scratch7) c ∗ ptsE (Memref.whole cc0_scratch8) c ∗ ptsE (Memref.whole cc0_scratch9) c ∗ ptsE (Memref.whole cc0_scratch10) c ∗ ptsE (Memref.whole cc0_scratch11) c ∗ ptsE (Memref.whole cc0_scratch12) c ∗ ptsE (Memref.whole cc0_scratch13) c ∗ ptsE (Memref.whole cc0_scratch14) c)
/-- A device's place at its sixteen semaphores. -/
def posP (c : Dev nD) : sProp 𝕄 :=
  iprop(atPos ER (barCell c) 0 ∅ 0 ∗ atPos ER (dCell c (inS 0)) 0 ∅ 0 ∗ atPos ER (dCell c (inS 1)) 0 ∅ 0 ∗ atPos ER (dCell c (inS 2)) 0 ∅ 0 ∗ atPos ER (dCell c (inS 3)) 0 ∅ 0 ∗ atPos ER (dCell c (inS 4)) 0 ∅ 0 ∗ atPos ER (dCell c (inS 5)) 0 ∅ 0 ∗ atPos ER (dCell c (inS 6)) 0 ∅ 0 ∗ atPos ER (dCell c (wfrsS)) 0 ∅ 0 ∗ atPos ER (dCell c (wfrsR)) 0 ∅ 0 ∗ atPos ER (dCell c (wfagS)) 0 ∅ 0 ∗ atPos ER (dCell c (wfagR)) 0 ∅ 0 ∗ atPos ER (dCell c (l1S)) 0 ∅ 0 ∗ atPos ER (dCell c (l1R)) 0 ∅ 0 ∗ atPos ER (dCell c (ag3S)) 0 ∅ 0 ∗ atPos ER (dCell c (ag3R)) 0 ∅ 0)
/-- Its sixteen semaphores at zero. -/
def zeroP (c : Dev nD) : sProp 𝕄 :=
  iprop(semVal (barCell c) 0 ∗ semVal (dCell c (inS 0)) 0 ∗ semVal (dCell c (inS 1)) 0 ∗ semVal (dCell c (inS 2)) 0 ∗ semVal (dCell c (inS 3)) 0 ∗ semVal (dCell c (inS 4)) 0 ∗ semVal (dCell c (inS 5)) 0 ∗ semVal (dCell c (inS 6)) 0 ∗ semVal (dCell c (wfrsS)) 0 ∗ semVal (dCell c (wfrsR)) 0 ∗ semVal (dCell c (wfagS)) 0 ∗ semVal (dCell c (wfagR)) 0 ∗ semVal (dCell c (l1S)) 0 ∗ semVal (dCell c (l1R)) 0 ∗ semVal (dCell c (ag3S)) 0 ∗ semVal (dCell c (ag3R)) 0)
/-- The payments a device is to make. -/
def payToks (c : Dev nD) : sProp 𝕄 :=
  iprop(btok c ∗ dutyTok ER (dCell c (inS 0)) 0 (0 : Fin 32) ∗ dutyTok ER (dCell c (inS 1)) 0 (0 : Fin 32) ∗ dutyTok ER (dCell c (inS 2)) 0 (0 : Fin 32) ∗ dutyTok ER (dCell c (inS 3)) 0 (0 : Fin 32) ∗ dutyTok ER (dCell c (inS 4)) 0 (0 : Fin 32) ∗ dutyTok ER (dCell c (inS 5)) 0 (0 : Fin 32) ∗ dutyTok ER (dCell c (inS 6)) 0 (0 : Fin 32) ∗ stok c wfrsS ∗ rtok c wfrsR ∗ stok c wfagS ∗ rtok c wfagR ∗ stok c l1S ∗ rtok c l1R ∗ stok c ag3S ∗ rtok c ag3R)
/-- The credit it waits with from the start. -/
def credP (c : Dev nD) : sProp 𝕄 :=
  iprop(cred (tallyAt (barCell c) () 32) ∗ cred (tallyAt (dCell c wfrsR) () (N16 * 32)) ∗ cred (tallyAt (dCell c wfagR) () (N16 * 32)) ∗ cred (tallyAt (dCell c l1R) () (N4 * 32)) ∗ cred (tallyAt (dCell c ag3R) () (N4 * 32)))

/-- What the body starts from. -/
def bodyIn (c : Dev nD) : sProp 𝕄 :=
  iprop(records m K ∗ levAts L lv ∗ ow c O₀ ∗ posP c ∗ payToks c ∗ credP c ∗ argsP m c ∗ scrP c ∗ ptsE (Memref.whole cc0_stg0_0) c)
/-- What it leaves. -/
def bodyOut (c : Dev nD) : sProp 𝕄 :=
  iprop(ow c 0 ∗ zeroP c ∗ argsP m c ∗ scrP c ∗ pts (Memref.whole cc0_stg0_0) c fullShare (outC m c))

/-- What the fetch of `Wout0` leaves, written out. -/
theorem fret_0 (c : Dev nD) : fret m c (inS 0) = iprop(semVal (dCell c (inS 0)) 0 ∗ pts (Memref.whole cc0_scratch2) c fullShare (wout0C m c) ∗ pts (Memref.whole main_arg4) c fullShare (wout0C m c)) := rfl
/-- What the fetch of `Win1` leaves, written out. -/
theorem fret_1 (c : Dev nD) : fret m c (inS 1) = iprop(semVal (dCell c (inS 1)) 0 ∗ pts (Memref.whole cc0_scratch3) c fullShare (win1C m c) ∗ pts (Memref.whole main_arg2) c fullShare (win1C m c)) := rfl
/-- What the fetch of `Wout1` leaves, written out. -/
theorem fret_2 (c : Dev nD) : fret m c (inS 2) = iprop(semVal (dCell c (inS 2)) 0 ∗ pts (Memref.whole cc0_scratch4) c fullShare (wout1C m c) ∗ pts (Memref.whole main_arg5) c fullShare (wout1C m c)) := rfl
/-- What the fetch of `Win2` leaves, written out. -/
theorem fret_3 (c : Dev nD) : fret m c (inS 3) = iprop(semVal (dCell c (inS 3)) 0 ∗ pts (Memref.whole cc0_scratch5) c fullShare (win2C m c) ∗ pts (Memref.whole main_arg3) c fullShare (win2C m c)) := rfl
/-- What the fetch of `x` leaves, written out. -/
theorem fret_4 (c : Dev nD) : fret m c (inS 4) = iprop(semVal (dCell c (inS 4)) 0 ∗ pts (Memref.whole cc0_scratch0) c fullShare (xC m c) ∗ pts (Memref.whole main_arg0) c fullShare (xC m c)) := rfl
/-- What the fetch of `Win0` leaves, written out. -/
theorem fret_5 (c : Dev nD) : fret m c (inS 5) = iprop(semVal (dCell c (inS 5)) 0 ∗ pts (Memref.whole cc0_scratch1) c fullShare (win0C m c) ∗ pts (Memref.whole main_arg1) c fullShare (win0C m c)) := rfl
/-- What the fetch of `Wout2` leaves, written out. -/
theorem fret_6 (c : Dev nD) : fret m c (inS 6) = iprop(semVal (dCell c (inS 6)) 0 ∗ pts (Memref.whole cc0_scratch6) c fullShare (wout2C m c) ∗ pts (Memref.whole main_arg6) c fullShare (wout2C m c)) := rfl

set_option maxHeartbeats 1600000 in
/-- The body runs from what it starts from to what it leaves. -/
theorem sound_body (c : Dev nD) (Q : PUnit → sProp 𝕄) : iprop(bodyIn m K c ∗ (bodyOut m c -∗ Q ⟨⟩)) ⊢ WP c Q bodyP := by
  unfold bodyP WP
  rw [wp_deviceId]
  unfold bodyIn posP payToks credP argsP scrP
  iintro ⟨⟨#HR, #Hlev, HO, ⟨HpB, Hp0, Hp1, Hp2, Hp3, Hp4, Hp5, Hp6, Hq8, Hq9, Hq10, Hq11, Hq12, Hq13, Hq14, Hq15⟩,
    ⟨Htb, Ht0, Ht1, Ht2, Ht3, Ht4, Ht5, Ht6, Hk8, Hk9, Hk10, Hk11, Hk12, Hk13, Hk14, Hk15⟩,
    ⟨HcB, Hc9, Hc11, Hc13, Hc15⟩, ⟨Ha0, Ha1, Ha2, Ha3, Ha4, Ha5, Ha6⟩,
    ⟨Hs0, Hs1, Hs2, Hs3, Hs4, Hs5, Hs6, Hs7, Hs8, Hs9, Hs10, Hs11, Hs12, Hs13, Hs14⟩, Hstg⟩, Hk⟩
  iapply (run_fetch m K c Q) $$ [Ha0 Ha1 Ha2 Ha3 Ha4 Ha5 Ha6 Ht0 Ht1 Ht2 Ht3 Ht4 Ht5 Ht6 Hs0 Hs1 Hs2 Hs3 Hs4 Hs5 Hs6]
  · unfold fin
    isplitr; · iexact HR
    isplitl [Ha4 Hs2 Ht0]
    · isplitl [Ha4]; · iexact Ha4
      isplitl [Hs2]; · iexact Hs2
      iexact Ht0
    isplitl [Ha2 Hs3 Ht1]
    · isplitl [Ha2]; · iexact Ha2
      isplitl [Hs3]; · iexact Hs3
      iexact Ht1
    isplitl [Ha5 Hs4 Ht2]
    · isplitl [Ha5]; · iexact Ha5
      isplitl [Hs4]; · iexact Hs4
      iexact Ht2
    isplitl [Ha3 Hs5 Ht3]
    · isplitl [Ha3]; · iexact Ha3
      isplitl [Hs5]; · iexact Hs5
      iexact Ht3
    isplitl [Ha0 Hs0 Ht4]
    · isplitl [Ha0]; · iexact Ha0
      isplitl [Hs0]; · iexact Hs0
      iexact Ht4
    isplitl [Ha1 Hs1 Ht5]
    · isplitl [Ha1]; · iexact Ha1
      isplitl [Hs1]; · iexact Hs1
      iexact Ht5
    isplitl [Ha6]; · iexact Ha6
    isplitl [Hs6]; · iexact Hs6
    iexact Ht6
  iintro ⟨Hf0, Hf1, Hf2, Hf3, Hf4, Hf5, Hf6⟩
  iapply (run_bar m K c Q) $$ [HO Htb HcB HpB Hs9 Hs11 Hs12 Hs14]
  · isplitr; · iexact HR
    isplitr; · iexact Hlev
    isplitl [HO]; · iexact HO
    isplitl [Htb]; · iexact Htb
    isplitl [HcB]; · iexact HcB
    isplitl [HpB]; · iexact HpB
    isplitl [Hs9]; · iexact Hs9
    isplitl [Hs11]; · iexact Hs11
    isplitl [Hs12] <;> iassumption
  iintro ⟨HO, HzB, Hw9, Hw11, Hw12, Hw14⟩
  iapply (run_wf m K c Q) $$ [HO Hf0 Hf1 Hf2 Hf3 Hp0 Hp1 Hp2 Hp3 Hs8 Hw9 Hk8 Hk9]
  · unfold fat
    isplitr; · iexact HR
    isplitr; · iexact Hlev
    isplitl [HO]; · iexact HO
    isplitl [Hf0 Hp0]; · isplitl [Hf0] <;> iassumption
    isplitl [Hf1 Hp1]; · isplitl [Hf1] <;> iassumption
    isplitl [Hf2 Hp2]; · isplitl [Hf2] <;> iassumption
    isplitl [Hf3 Hp3]; · isplitl [Hf3] <;> iassumption
    isplitl [Hs8]; · iexact Hs8
    isplitl [Hw9]; · iexact Hw9
    isplitl [Hk8] <;> iassumption
  iintro ⟨HO, Hr0, Hr1, Hr2, Hr3, Hc8⟩
  iapply (run_p1 m K c Q) $$ [HO Hf4 Hf5 Hp4 Hp5 Hs7 Hw12 Hk12 Hk13]
  · unfold fat
    isplitr; · iexact HR
    isplitr; · iexact Hlev
    isplitl [HO]; · iexact HO
    isplitl [Hf4 Hp4]; · isplitl [Hf4] <;> iassumption
    isplitl [Hf5 Hp5]; · isplitl [Hf5] <;> iassumption
    isplitl [Hs7]; · iexact Hs7
    isplitl [Hw12]; · iexact Hw12
    isplitl [Hk12] <;> iassumption
  iintro ⟨HO, Hr4, Hr5, Hc12⟩
  iapply (run_red m K c Q) $$ [HO Hc9 Hq9 Hs10 Hw11 Hk10 Hk11]
  · unfold wq
    isplitr; · iexact HR
    isplitr; · iexact Hlev
    isplitl [HO]; · iexact HO
    isplitl [Hc9 Hq9]; · isplitl [Hc9] <;> iassumption
    isplitl [Hs10]; · iexact Hs10
    isplitl [Hw11]; · iexact Hw11
    isplitl [Hk10] <;> iassumption
  iintro ⟨HO, Hz9, Hs9, Hc10⟩
  iapply (run_h1 m K c Q) $$ [HO Hc13 Hq13 Hc11 Hq11]
  · unfold wq
    isplitr; · iexact HR
    isplitr; · iexact Hlev
    isplitl [HO]; · iexact HO
    isplitl [Hc13 Hq13]; · isplitl [Hc13] <;> iassumption
    isplitl [Hc11] <;> iassumption
  iintro ⟨HO, Hz13, Hs12, Hz11, Hs11⟩
  iapply (run_h3 m c Q) $$ [Hs11 Hs13]
  · isplitl [Hs11] <;> iassumption
  iintro ⟨Hs11, Hs13⟩
  iapply (run_ag3 m K c Q) $$ [HO Hc15 Hq15 Hs13 Hw14 Hk14 Hk15]
  · unfold wq
    isplitr; · iexact HR
    isplitr; · iexact Hlev
    isplitl [HO]; · iexact HO
    isplitl [Hc15 Hq15]; · isplitl [Hc15] <;> iassumption
    isplitl [Hs13]; · iexact Hs13
    isplitl [Hw14]; · iexact Hw14
    isplitl [Hk14] <;> iassumption
  iintro ⟨HO, Hz15, Hs14, Hc14⟩
  iapply (run_out m K c Q) $$ [HO Hf6 Hp6 Hs14 Hstg]
  · unfold fat
    isplitr; · iexact HR
    isplitr; · iexact Hlev
    isplitl [HO]; · iexact HO
    isplitl [Hf6 Hp6]; · isplitl [Hf6] <;> iassumption
    isplitl [Hs14] <;> iassumption
  iintro ⟨HO, Hr6, Hs14, Hstg⟩
  iapply (run_tail m K c Q) $$ [HO Hc8 Hq8 Hc10 Hq10 Hc12 Hq12 Hc14 Hq14]
  · unfold wq
    isplitr; · iexact HR
    isplitr; · iexact Hlev
    isplitl [HO]; · iexact HO
    isplitl [Hc8 Hq8]; · isplitl [Hc8] <;> iassumption
    isplitl [Hc10 Hq10]; · isplitl [Hc10] <;> iassumption
    isplitl [Hc12 Hq12]; · isplitl [Hc12] <;> iassumption
    isplitl [Hc14] <;> iassumption
  iintro ⟨HO, ⟨Hz8, Hs8⟩, ⟨Hz10, Hs10⟩, ⟨Hz12, Hs7⟩, ⟨Hz14, Hs13⟩⟩
  ihave Hr0 := (Entails.of_eq (fret_0 m c)) $$ Hr0
  icases Hr0 with ⟨Hz0, Hs2, Ha4⟩
  ihave Hr1 := (Entails.of_eq (fret_1 m c)) $$ Hr1
  icases Hr1 with ⟨Hz1, Hs3, Ha2⟩
  ihave Hr2 := (Entails.of_eq (fret_2 m c)) $$ Hr2
  icases Hr2 with ⟨Hz2, Hs4, Ha5⟩
  ihave Hr3 := (Entails.of_eq (fret_3 m c)) $$ Hr3
  icases Hr3 with ⟨Hz3, Hs5, Ha3⟩
  ihave Hr4 := (Entails.of_eq (fret_4 m c)) $$ Hr4
  icases Hr4 with ⟨Hz4, Hs0, Ha0⟩
  ihave Hr5 := (Entails.of_eq (fret_5 m c)) $$ Hr5
  icases Hr5 with ⟨Hz5, Hs1, Ha1⟩
  ihave Hr6 := (Entails.of_eq (fret_6 m c)) $$ Hr6
  icases Hr6 with ⟨Hz6, Hs6, Ha6⟩
  iapply Hk
  unfold bodyOut zeroP argsP scrP
  isplitl [HO]; · iexact HO
  isplitl [HzB Hz0 Hz1 Hz2 Hz3 Hz4 Hz5 Hz6 Hz8 Hz9 Hz10 Hz11 Hz12 Hz13 Hz14 Hz15]
  · isplitl [HzB]; · iexact HzB
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    iexact Hz15
  isplitl [Ha0 Ha1 Ha2 Ha3 Ha4 Ha5 Ha6]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  isplitl [Hs0 Hs1 Hs2 Hs3 Hs4 Hs5 Hs6 Hs7 Hs8 Hs9 Hs10 Hs11 Hs12 Hs13 Hs14]
  · unfold ptsE
    isplitl [Hs0]; · first | iexact Hs0 | (iexists _; iexact Hs0)
    isplitl [Hs1]; · first | iexact Hs1 | (iexists _; iexact Hs1)
    isplitl [Hs2]; · first | iexact Hs2 | (iexists _; iexact Hs2)
    isplitl [Hs3]; · first | iexact Hs3 | (iexists _; iexact Hs3)
    isplitl [Hs4]; · first | iexact Hs4 | (iexists _; iexact Hs4)
    isplitl [Hs5]; · first | iexact Hs5 | (iexists _; iexact Hs5)
    isplitl [Hs6]; · first | iexact Hs6 | (iexists _; iexact Hs6)
    isplitl [Hs7]; · first | iexact Hs7 | (iexists _; iexact Hs7)
    isplitl [Hs8]; · first | iexact Hs8 | (iexists _; iexact Hs8)
    isplitl [Hs9]; · first | iexact Hs9 | (iexists _; iexact Hs9)
    isplitl [Hs10]; · first | iexact Hs10 | (iexists _; iexact Hs10)
    isplitl [Hs11]; · first | iexact Hs11 | (iexists _; iexact Hs11)
    isplitl [Hs12]; · first | iexact Hs12 | (iexists _; iexact Hs12)
    isplitl [Hs13]; · first | iexact Hs13 | (iexists _; iexact Hs13)
    first | iexact Hs14 | (iexists _; iexact Hs14)
  iexact Hstg

end Cert.MlpProof

end
-- ==== Proof.Launch.lean ====
/-
# The run

The launch deals every device its semaphores, its payments and its credit; the bodies run; the result array holds the
computed contents, the arguments what they held, and every semaphore counts zero.
-/
module

public import proofs.«01_k».proof.Proof.Whole
public import Idealize.ShloMosaic.Adequacy
public import Idealize.ShloMosaic.Init
public import Idealize.ShloMosaic.Lib.Pipeline.CollectiveSegs

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the DMA semaphores 1 to 15. -/
abbrev osem : Fin 15 → SemLoc sig := fun k => .dma (⟨1 + k.val, by have := k.isLt; show _ < 16; omega⟩ : Fin 16)

/-! ## What the body is given and gives back -/

/-- What a device brings into its body. -/
def start (c : Dev nD) : sProp 𝕄 :=
  iprop((∃ K, records m K) ∗ levAts L lv ∗ posP c ∗ payToks c ∗ credP c ∗ argsP m c)
def Φ₀ (c : Dev nD) : sProp 𝕄 := iprop(start m c ∗ scrP c)
def Φ₁ (c : Dev nD) : sProp 𝕄 := iprop(zeroP c ∗ argsP m c ∗ scrP c)

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀
    | ⟨_ + 1, _⟩ => 0

/-- The staging buffer owned at `X` is the buffer held with contents equal to `X`. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outC m c))

set_option maxRecDepth 100000 in
/-- The body, as the launch asks for it. -/
theorem body_obligation (c : Dev nD) : BodyObligation (dats (F := F) m 0 c) (defs₀ (F := F)) 𝒱₀ () Set.univ := fun t => by
  rw [fin_N0 t]
  rw [bigSep_W0, bigSep_W0]
  simp only [owns_stg]
  show bodyPre m c ⊢ WP c (fun _ => bodyPost m c) (bodyAt0 (F := F) t0_0)
  rw [bodyP_eq]
  unfold bodyPre Φ₀ start Pipeline.Dat.owesAt Pipeline.owesWithin
  iintro ⟨⟨⟨⟨%K, HR⟩, Hlev, Hp, Ht, Hc, Ha⟩, Hs⟩, ⟨%W, %hW, HO⟩, ⟨%d, %g, %hg, Hout⟩⟩
  iapply (sound_body m K c fun _ => bodyPost m c)
  isplitr []
  · unfold bodyIn
    isplitl [HR]; · iexact HR
    isplitl [Hlev]; · iexact Hlev
    isplitl [HO]; · unfold ow; iexists W; iexact HO
    isplitl [Hp]; · iexact Hp
    isplitl [Ht]; · iexact Ht
    isplitl [Hc]; · iexact Hc
    isplitl [Ha]; · iexact Ha
    isplitl [Hs]; · iexact Hs
    unfold ptsE; iexists g; rw [pts_whole]; iexact Hout
  · unfold bodyOut bodyPost Φ₁ Pipeline.Dat.owesAt Pipeline.owesWithin ow
    iintro ⟨⟨%W', HO⟩, Hz, Ha, Hs, Hout⟩
    isplitl [Hz Ha Hs]
    · isplitl [Hz]; · iexact Hz
      isplitl [Ha] <;> iassumption
    isplitl [HO]
    · iexists W'
      isplitr; · ipureintro; exact fun _ _ => Or.inl trivial
      iexact HO
    iexists (outC m c)
    isplitr; · (ipureintro; rfl)
    iapply (Entails.of_eq (pts_whole cc0_stg0_0 c fullShare (outC m c))); iexact Hout

/-! ## The launch's resources -/

/-- The kernel's own semaphores are as the launch requires. -/
theorem ownSemFacts : Pipeline.OwnSemFacts cfg0.spec osem := by decide

/-- Each window's array is held whole. -/
theorem share_eq (c : Dev nD) (w : Fin cfg0.W) : (dats m 0 c).share w = fullShare := by unfold Dat.share; split <;> rfl

/-- The sixteen semaphores differ. -/
theorem csem_injective : Function.Injective csem := by decide

/-- No two devices share a semaphore, and no device has one twice. -/
theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl
def allCells : Finset (GSem nD τ sig) := Finset.univ.map ⟨kcell, kcell_injective⟩

/-- A payment: its semaphore and its payer. -/
abbrev tokOf (x : Dev nD × Fin 16 × Dev nD) : GSem nD τ sig × ℕ × Dev nD := (kcell (x.1, x.2.1), 0, x.2.2)
/-- Each payment is named once. -/
theorem tokOf_injective : Function.Injective tokOf := by
  rintro ⟨c, k, d⟩ ⟨c', k', d'⟩ h
  have h1 : (c, k) = (c', k') := kcell_injective (congrArg Prod.fst h)
  have h2 : d = d' := congrArg (fun x : GSem nD τ sig × ℕ × Dev nD => x.2.2) h
  cases h1; subst h2; rfl
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- All payments at one semaphore. -/
def toksAt (c : Dev nD) (k : Fin 16) : sProp 𝕄 := bigSep Finset.univ fun d : Dev nD => dutyTok ER (kcell (c, k)) 0 d
/-- All payments at a device's semaphores. -/
def toks (c : Dev nD) : sProp 𝕄 := bigSep Finset.univ fun k : Fin 16 => toksAt c k

def G (c : Dev nD) : sProp 𝕄 :=
  iprop((bigSep Finset.univ fun k : Fin 16 => roundState ER (Rd m) (kcell (c, k)) 0)
    ∗ (bigSep Finset.univ fun k : Fin 16 => iprop(atPos ER (kcell (c, k)) 0 ∅ 0 ∗ reached ER (kcell (c, k)) 0)) ∗ toks c)
def G' (c : Dev nD) : sProp 𝕄 := iprop((∃ K, records m K) ∗ posP c ∗ payToks c)

/-- A family over the sixteen semaphores, written out. -/
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The rounds' state of all semaphores, made at once and sorted by devices. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 16 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks toksAt; rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's fifteen semaphores at zero, written out. -/
theorem ownSems0_eq (c : Dev nD) : (Pipeline.ownSems0 (Ix := Unit) (Name := ℕ) (U := UU) (Lvl := ℕ) (Val := Elt F) (τ := τ) osem c : sProp 𝕄)
    = iprop(semVal (dCell c (inS 0)) 0 ∗ semVal (dCell c (inS 1)) 0 ∗ semVal (dCell c (inS 2)) 0 ∗ semVal (dCell c (inS 3)) 0 ∗ semVal (dCell c (inS 4)) 0 ∗ semVal (dCell c (inS 5)) 0 ∗ semVal (dCell c (inS 6)) 0 ∗ semVal (dCell c (wfrsS)) 0 ∗ semVal (dCell c (wfrsR)) 0 ∗ semVal (dCell c (wfagS)) 0 ∗ semVal (dCell c (wfagR)) 0 ∗ semVal (dCell c (l1S)) 0 ∗ semVal (dCell c (l1R)) 0 ∗ semVal (dCell c (ag3S)) 0 ∗ semVal (dCell c (ag3R)) 0) := by
  rw [Pipeline.ownSems0_eq_of_list c osem [0, 1, 2, 3, 4, 5, 6, 7, 8, 9, 10, 11, 12, 13, 14] (by decide) (by decide)]; rfl
/-- The only other semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The sixteen zeros of a device as a family. -/
theorem zeroP_eq (c : Dev nD) : (zeroP c : sProp 𝕄) = bigSep Finset.univ fun k : Fin 16 => semVal (kcell (c, k)) 0 := by
  rw [bigSep_fin16]; unfold zeroP; rfl
/-- The sixteen positions of a device as a family. -/
theorem posP_eq (c : Dev nD) : (posP c : sProp 𝕄) = bigSep Finset.univ fun k : Fin 16 => atPos ER (kcell (c, k)) 0 ∅ 0 := by
  rw [bigSep_fin16]; unfold posP; rfl
/-- The sixteen zeros are the barrier's and the kernel's own. -/
theorem zeroP_sems (c : Dev nD) : (zeroP c : sProp 𝕄) = iprop(unscopedSems0 c ∗ Pipeline.ownSems0 (Ix := Unit) (Name := ℕ) (U := UU) (Lvl := ℕ) (Val := Elt F) (τ := τ) osem c) := by
  rw [ownSems0_eq, unscopedSems0_eq]; rfl

/-- One device's semaphores, each put under its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq ((zeroP_sems (F := F) c).symm.trans (zeroP_eq c))) $$ [Hos Hus]
  · isplitl [Hus] <;> iassumption
  imod (show iprop((bigSep Finset.univ fun k : Fin 16 => semVal (kcell (c, k)) 0) ∗ bigSep Finset.univ fun k : Fin 16 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The payments dealt to their payers -/

/-- A family over pairs, dealt along its other index. -/
theorem deal (k : Fin 16) : (bigSep Finset.univ fun c : Dev nD => toksAt c k : sProp 𝕄)
    = bigSep Finset.univ fun c : Dev nD => bigSep Finset.univ fun d : Dev nD => dutyTok ER (kcell (d, k)) 0 c := by
  unfold toksAt
  exact BI.bigSep_univ_comm fun c d : Dev nD => (dutyTok ER (kcell (c, k)) 0 d : sProp 𝕄)

/-- The payments of one semaphore, only device 0's kept. -/
theorem keep (k : Fin 16) : (bigSep Finset.univ fun c : Dev nD => toksAt c k : sProp 𝕄)
    ⊢ bigSep Finset.univ fun c : Dev nD => dutyTok ER (kcell (c, k)) 0 (0 : Fin 32) :=
  bigSep_mono fun c _ => by unfold toksAt; exact bigSep_elim (Finset.mem_univ (0 : Fin 32))

/-- All payments, sorted by receiver, are all payments sorted by payer. -/
theorem toks_dealt : (bigSep Finset.univ fun c : Dev nD => (toks c : sProp 𝕄)) ⊢ bigSep Finset.univ fun c : Dev nD => payToks c := by
  have h : (bigSep Finset.univ fun c : Dev nD => (toks c : sProp 𝕄)) = bigSep Finset.univ fun k : Fin 16 => bigSep Finset.univ fun c : Dev nD => toksAt c k := by
    unfold toks; exact BI.bigSep_univ_comm fun (c : Dev nD) (k : Fin 16) => (toksAt c k : sProp 𝕄)
  rw [h, bigSep_fin16]
  unfold payToks
  simp only [bigSep_sep']
  iintro ⟨H0, H1, H2, H3, H4, H5, H6, H7, H8, H9, H10, H11, H12, H13, H14, H15⟩
  isplitl [H0]; · iapply (Entails.of_eq (deal (F := F) 0)); iexact H0
  isplitl [H1]; · iapply (keep (F := F) 1); iexact H1
  isplitl [H2]; · iapply (keep (F := F) 2); iexact H2
  isplitl [H3]; · iapply (keep (F := F) 3); iexact H3
  isplitl [H4]; · iapply (keep (F := F) 4); iexact H4
  isplitl [H5]; · iapply (keep (F := F) 5); iexact H5
  isplitl [H6]; · iapply (keep (F := F) 6); iexact H6
  isplitl [H7]; · iapply (keep (F := F) 7); iexact H7
  isplitl [H8]; · iexact H8
  isplitl [H9]; · iapply (Entails.of_eq (deal (F := F) 9)); iexact H9
  isplitl [H10]; · iexact H10
  isplitl [H11]; · iapply (Entails.of_eq (deal (F := F) 11)); iexact H11
  isplitl [H12]; · iexact H12
  isplitl [H13]; · iapply (Entails.of_eq (deal (F := F) 13)); iexact H13
  isplitl [H14]; · iexact H14
  iapply (Entails.of_eq (deal (F := F) 15)); iexact H15

/-- What may be copied goes to every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What one device takes into its body of the records, positions and payments. -/
theorem ghost_intro (K : Dev nD × Fin 16 → ℕ) (c : Dev nD) : iprop(records m K ∗ (posP c ∗ payToks c)) ⊢ G' m c := by
  unfold G'
  iintro ⟨HR, HP, HT⟩
  isplitl [HR]; · iexists K; iexact HR
  isplitl [HP] <;> iassumption

/-- The allocated semaphores of all devices, dealt so that each has every record and its own payments. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 16 => iprop(∃ κ : ℕ, cellInv ER (Rd m) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄))]
  iintro ⟨HI, ⟨Hat, #HR⟩, Htok⟩
  ihave HK := (BI.bigSep_exists_pi Finset.univ (fun (ck : Dev nD × Fin 16) (κ : ℕ) => (cellInv ER (Rd m) κ (kcell ck) : sProp 𝕄))) $$ HI
  icases HK with ⟨%K, #HI⟩
  ihave Htk := (toks_dealt (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun k : Fin 16 => (atPos ER (kcell (c, k)) 0 ∅ 0 : sProp 𝕄)) payToks).symm).trans
      (bigSep_mono fun c _ => sep_mono_left (Entails.of_eq (posP_eq c).symm)))
    isplitl [Hat]; · iexact Hat
    iexact Htk

/-- The set-up before the devices start: every semaphore under its invariant, every payment with its payer. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Each device has its own barrier semaphore. -/
theorem bar_inj : Function.Injective barCell := fun a b h => congrArg (fun g : GSem nD τ sig => g.1.1) h
/-- Each device has its own copy of a transfer semaphore. -/
theorem dCell_inj (q : DmaSem sig) : Function.Injective (dCell · q) := fun a b h => congrArg (fun g : GSem nD τ sig => g.1.1) h

/-- A semaphore of another kind is owed nothing through these. -/
theorem off_of_sem {g : GSem nD τ sig} (cell : Dev nD → GSem nD τ sig) (sm : SemLoc sig) (hc : ∀ d, (cell d).2 = sm) (h : g.2 ≠ sm) : ∀ d, g ≠ cell d :=
  fun d hd => h ((congrArg Prod.snd hd).trans (hc d))

/-- The loops visit no device twice. -/
theorem devs_nodup : devs.Nodup := List.nodup_finRange 32
/-- The loops visit every device. -/
theorem mem_devs (c : Dev nD) : c ∈ devs := List.mem_finRange c

/-- What a device owes a semaphore at the start, exchange by exchange. -/
theorem owed_apply (g : GSem nD τ sig) : O₀ g () = owAg3 devs g () + owWfag devs g () + owL1 devs g () + owWfrs devs g () + owBar devs g () := by
  unfold O₀; simp only [Pi.add_apply, Finsupp.add_apply]

/-- The third layer's exchange pays its own receive semaphores alone. -/
theorem off_ag3 (g : GSem nD τ sig) (h : g.2 ≠ .dma ag3R) : owAg3 devs g () = 0 := owedL_off _ _ g (off_of_sem _ (.dma ag3R) (fun _ => rfl) h) () devs
/-- The gathering of the weight products pays its own receive semaphores alone. -/
theorem off_wfag (g : GSem nD τ sig) (h : g.2 ≠ .dma wfagR) : owWfag devs g () = 0 := owedL_off _ _ g (off_of_sem _ (.dma wfagR) (fun _ => rfl) h) () devs
/-- The first layer's exchange pays its own receive semaphores alone. -/
theorem off_l1 (g : GSem nD τ sig) (h : g.2 ≠ .dma l1R) : owL1 devs g () = 0 := owedL_off _ _ g (off_of_sem _ (.dma l1R) (fun _ => rfl) h) () devs
/-- The exchange of the weight products pays its own receive semaphores alone. -/
theorem off_wfrs (g : GSem nD τ sig) (h : g.2 ≠ .dma wfrsR) : owWfrs devs g () = 0 := owedL_off _ _ g (off_of_sem _ (.dma wfrsR) (fun _ => rfl) h) () devs
/-- The barrier's signals pay the barrier semaphores alone. -/
theorem off_bar (g : GSem nD τ sig) (h : g.2 ≠ .reg barS) : owBar devs g () = 0 := owedL_off _ _ g (off_of_sem _ (.reg barS) (fun _ => rfl) h) () devs
/-- An exchange with all devices owes each of its semaphores one amount. -/
theorem on_cell (cell : Dev nD → GSem nD τ sig) (hinj : Function.Injective cell) (N : ℕ) (c : Dev nD) : owedL cell N devs (cell c) () = N := by
  rw [owedL_at cell hinj N c devs devs_nodup, if_pos (mem_devs c)]

/-- A device owes each barrier semaphore one unit. -/
theorem owed_bar (c : Dev nD) : O₀ (barCell c) () = 1 := by
  rw [owed_apply, off_ag3 _ (show (SemLoc.reg barS : SemLoc sig) ≠ SemLoc.dma ag3R from by decide), off_wfag _ (show (SemLoc.reg barS : SemLoc sig) ≠ SemLoc.dma wfagR from by decide), off_l1 _ (show (SemLoc.reg barS : SemLoc sig) ≠ SemLoc.dma l1R from by decide), off_wfrs _ (show (SemLoc.reg barS : SemLoc sig) ≠ SemLoc.dma wfrsR from by decide), on_cell barCell bar_inj]
/-- A device owes each receive semaphore of the weight products one window of 16 rows. -/
theorem owed_wfrs (c : Dev nD) : O₀ (dCell c wfrsR) () = N16 := by
  rw [owed_apply, off_ag3 _ (show (SemLoc.dma wfrsR : SemLoc sig) ≠ SemLoc.dma ag3R from by decide), off_wfag _ (show (SemLoc.dma wfrsR : SemLoc sig) ≠ SemLoc.dma wfagR from by decide), off_l1 _ (show (SemLoc.dma wfrsR : SemLoc sig) ≠ SemLoc.dma l1R from by decide), off_bar _ (show (SemLoc.dma wfrsR : SemLoc sig) ≠ SemLoc.reg barS from by decide), on_cell (dCell · wfrsR) (dCell_inj _)]; omega
/-- A device owes each receive semaphore of the gathered products one window of 16 rows. -/
theorem owed_wfag (c : Dev nD) : O₀ (dCell c wfagR) () = N16 := by
  rw [owed_apply, off_ag3 _ (show (SemLoc.dma wfagR : SemLoc sig) ≠ SemLoc.dma ag3R from by decide), off_wfrs _ (show (SemLoc.dma wfagR : SemLoc sig) ≠ SemLoc.dma wfrsR from by decide), off_l1 _ (show (SemLoc.dma wfagR : SemLoc sig) ≠ SemLoc.dma l1R from by decide), off_bar _ (show (SemLoc.dma wfagR : SemLoc sig) ≠ SemLoc.reg barS from by decide), on_cell (dCell · wfagR) (dCell_inj _)]; omega
/-- A device owes each receive semaphore of the first layer one window of 4 rows. -/
theorem owed_l1 (c : Dev nD) : O₀ (dCell c l1R) () = N4 := by
  rw [owed_apply, off_ag3 _ (show (SemLoc.dma l1R : SemLoc sig) ≠ SemLoc.dma ag3R from by decide), off_wfrs _ (show (SemLoc.dma l1R : SemLoc sig) ≠ SemLoc.dma wfrsR from by decide), off_wfag _ (show (SemLoc.dma l1R : SemLoc sig) ≠ SemLoc.dma wfagR from by decide), off_bar _ (show (SemLoc.dma l1R : SemLoc sig) ≠ SemLoc.reg barS from by decide), on_cell (dCell · l1R) (dCell_inj _)]; omega
/-- A device owes each receive semaphore of the third layer one window of 4 rows. -/
theorem owed_ag3 (c : Dev nD) : O₀ (dCell c ag3R) () = N4 := by
  rw [owed_apply, off_l1 _ (show (SemLoc.dma ag3R : SemLoc sig) ≠ SemLoc.dma l1R from by decide), off_wfrs _ (show (SemLoc.dma ag3R : SemLoc sig) ≠ SemLoc.dma wfrsR from by decide), off_wfag _ (show (SemLoc.dma ag3R : SemLoc sig) ≠ SemLoc.dma wfagR from by decide), off_bar _ (show (SemLoc.dma ag3R : SemLoc sig) ≠ SemLoc.reg barS from by decide), on_cell (dCell · ag3R) (dCell_inj _)]; omega

/-- Each device owing a cell `n`, its launch credit is 32 times `n`. -/
theorem launch_cell (g : GSem nD τ sig) (n : ℕ) (h : O₀ g () = n) :
    tallyOn g (launchCredit (Pipeline.owing fun _ : Dev nD => O₀) 0 g) = (tallyAt g () (n * 32) : CellTallies nD τ sig Unit) := by
  unfold tallyAt; refine congrArg _ (Finsupp.ext fun u => ?_); cases u
  rw [Pipeline.launchCredit_owing, Finsupp.single_eq_same, Finset.sum_congr rfl fun d _ => h, Finset.sum_const, Nat.mul_comm]
  rfl

/-- The launch's credit is what a device awaits its five receiving semaphores with. -/
theorem creds (c : Dev nD) : (Pipeline.launchCred (fun _ : Dev nD => O₀) c : sProp 𝕄) ⊢ credP c := by
  unfold Pipeline.launchCred credP
  have hsub : ({SemLoc.reg barS, .dma wfrsR, .dma wfagR, .dma l1R, .dma ag3R} : Finset (SemLoc sig)) ⊆ Finset.univ := Finset.subset_univ _
  refine (bigSep_subset hsub).trans ?_
  rw [bigSep_eq_bigSepL_of_eq [SemLoc.reg barS, .dma wfrsR, .dma wfagR, .dma l1R, .dma ag3R] (by decide) (by decide)]
  show iprop(cred (tallyOn (barCell c) _) ∗ cred (tallyOn (dCell c wfrsR) _) ∗ cred (tallyOn (dCell c wfagR) _) ∗ cred (tallyOn (dCell c l1R) _) ∗ cred (tallyOn (dCell c ag3R) _)) ⊢ _
  rw [launch_cell _ 1 (owed_bar c), launch_cell _ N16 (owed_wfrs c), launch_cell _ N16 (owed_wfag c), launch_cell _ N4 (owed_l1 c), launch_cell _ N4 (owed_ag3 c)]

/-! ## The launch's side conditions -/

/-- The launch's remaining arrays are the seven arguments. -/
theorem args_eq (c : Dev nD) : (Pipeline.unscopedRest cfg0.spec c (fun b => m ((c : Thread nD τ).loc b)) : sProp 𝕄) = argsP m c := by
  rw [unscopedRest0_eq]; unfold argsP; simp only [pts_whole]; rfl
/-- The launch's remaining scratch is the fifteen buffers. -/
theorem scr_eq (c : Dev nD) : (Pipeline.scopedRest (Val := Elt F) cfg0.spec c : sProp 𝕄) = scrP c := by
  rw [scopedRest0_eq]; unfold scrP ptsE; simp only [pts_whole]

/-- What the launch hands a device is what it brings into its body. -/
theorem start_intro (c : Dev nD) :
    iprop(Pipeline.unscopedRestP Pipeline.Prefetch.none cfg0.spec c (fun b => m ((c : Thread nD τ).loc b)) ∗ levAts L lv
        ∗ Pipeline.launchCred (fun _ : Dev nD => O₀) c ∗ prngReg c (ρ c) ∗ G' m c)
      ⊢ |={Set.univ}=> iprop(start m c ∗ emp) := by
  rw [Pipeline.unscopedRestP_none, args_eq]
  unfold G' start
  iintro ⟨Ha, Hlev, Hcr, -, HR, HP, HT⟩
  ihave Hc := (creds (F := F) c) $$ Hcr
  imodintro
  isplitl
  · isplitl [HR]; · iexact HR
    isplitl [Hlev]; · iexact Hlev
    isplitl [HP]; · iexact HP
    isplitl [HT]; · iexact HT
    isplitl [Hc] <;> iassumption
  · iempintro

/-- With the scratch buffers, that is the body's entry state. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

/-- The body's exit state gives back the semaphores at zero, the arguments and the scratch. -/
theorem phi1_exit (c : Dev nD) :
    (dats m 0 c).Φ (Fin.last cfg0.N) ⊢ iprop((unscopedSems0 c ∗ argsP m c) ∗ Pipeline.ownSems0 osem c ∗ Pipeline.scopedRest cfg0.spec c) := by
  rw [show (dats m 0 c).Φ (Fin.last cfg0.N) = Φ₁ m c from rfl, scr_eq]
  unfold Φ₁; rw [zeroP_sems]
  iintro ⟨⟨Hu, Ho⟩, Ha, Hr⟩
  isplitl [Hu Ha]; · isplitl [Hu] <;> iassumption
  isplitl [Ho] <;> iassumption

/-- All that a device owes at the start is above level 0. -/
theorem above_O₀ : Above 0 O₀ :=
  above_add (above_add (above_add (above_add (above_ag3 (by decide) _) (above_wfag (by decide) _)) (above_l1 (by decide) _)) (above_wfrs (by decide) _)) (above_bar (by decide) _)

/-- The result's write-back may be awaited. -/
theorem waits (c : Dev nD) : (levAts L lv : sProp 𝕄) ⊢ Pipeline.cellsWaits cfgs (dats m) () 0 c :=
  Pipeline.cellsWaits_intro cfgs (dats m) () 0 c fun w s t => by
    have hw : w = (0 : Fin 1) := Subsingleton.elim _ _
    subst hw
    rcases t with ⟨_ | _, ht⟩
    · exact mayWait_of_above c _ O₀ (by fin_cases s; exact above_O₀)
    · exact mayWait_of_above c _ 0 (above_zero _)

/-! ## The run -/

/-- The seven argument arrays of a device end as they were. -/
def ArgsKept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- Arguments held at their launch contents are so in memory. -/
theorem args_read (c : Dev nD) (s' : Phys nD τ sig (Elt F)) : iprop(argsP m c ∗ SI s') ⊢ iprop(⌜ArgsKept m c s'.mem⌝ ∗ SI s' : sProp 𝕄) := by
  rw [← args_eq, unscopedRest0_eq]
  iintro ⟨⟨H0, H1, H2, H3, H4, H5, H6⟩, HSI⟩
  icombine HSI H0 gives %h0
  icombine HSI H1 gives %h1
  icombine HSI H2 gives %h2
  icombine HSI H3 gives %h3
  icombine HSI H4 gives %h4
  icombine HSI H5 gives %h5
  icombine HSI H6 gives %h6
  isplitr
  · ipureintro
    exact ⟨Buf.eq_of_forall_mem_univ h0, Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

def finalA (c : Dev nD) (w : Fin cfg0.W) : Buf (Elt F) ((cfg0.win w).arr.view.loc (c : Thread nD τ)) := (dats m 0 c).arrAt w cfg0.N

set_option maxRecDepth 8000 in
/-- From any memory with zero counters the mesh runs to its end: the result array of every device at the computed
    contents, its arguments unchanged, every semaphore at zero. -/
theorem run_all : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ ArgsKept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun _ => O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argsP m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ ArgsKept m c s)
    (hY := fun c s' => by
      iintro ⟨⟨Hu, Ha⟩, -, HSI⟩
      ihave Hr := (args_read m c s') $$ [Ha HSI]
      · isplitl [Ha] <;> iassumption
      icases Hr with ⟨%ha, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, ha⟩
      iexact HSI)
    (hQ := fun _ h hs => ⟨fun c => ⟨fun w => (h c).1 w, (h c).2.2.2⟩, sem_eq_zero hs fun c => (h c).2.2.1⟩)

end Cert.MlpProof

end
-- ==== Proof.Frames.lean ====
/-
# The frame claims

The run of the kernel, which holds over any float values, gives the frame of the kernel at its bits and of its ideal
program; the reference has no semaphores, so its run gives its frame.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Lib.Pipeline.ValueKit.Geometry

@[expose] public section

noncomputable section

namespace Cert.MlpProof

open Idealize.ShloMosaic Idealize.ShloMosaic.TcCoe Idealize.SL.Sem

section
open Cert.KernelIdeal
variable {F : FTy → Type} [FloatOps F]

/-- Over any float values the program ends with its arguments kept and its semaphores at zero. -/
theorem frame_any (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, ArgsKept m c r.2) ∧ r.2.sem = fun _ => 0) :=
  (θ_run defs _ _).mono (fun _ h => ⟨fun c => (h.1 c).2, h.2⟩) (run_all m ρ)

/-- The two programs have the same body, printed twice. -/
theorem body_same : Cert.Kernel.cc0_body (F := F) = Cert.KernelIdeal.cc0_body (F := F) := rfl

/-- So their body tables are one: it has one label. -/
theorem bodies_same : Cert.Kernel.defs₀ (F := F) = Cert.KernelIdeal.defs₀ (F := F) := by
  refine congrArg Defs.onTc (funext fun l => funext fun x => ?_)
  match l, x with
  | ⟨0, _⟩, (t, s) => rfl

/-- And their tables with the pipeline's entries. -/
theorem defs_same : Cert.Kernel.defs (F := F) = Cert.KernelIdeal.defs (F := F) :=
  congrArg (Pipeline.defs (pcfgs (F := F))) bodies_same

/-- The frame under any table equal to this program's. -/
theorem frame_under (D : Defs nD τ sig (Elt F) (Pipeline.Sig Λ₀ (Fin 1) fun p => (pcfgs (F := F) p).Adm)) (hD : D = defs (F := F))
    (m : (ℓ : Loc nD τ sig) → Buf (Elt F) ℓ) (ρ : Dev nD → PrngReg) :
    θ_run D (onTc (τ := τ) (main (F := F))) ⟨m, fun _ => 0, ρ⟩
      (fun r => (∀ c : Dev nD, ArgsKept m c r.2) ∧ r.2.sem = fun _ => 0) := by
  subst hD; exact frame_any m ρ
end

/-- The ideal program's frame. -/
theorem frame_kernelIdeal : Cert.quiescent_KernelIdeal := fun m ρ _ => frame_any (F := Ideal) m ρ

/-- The kernel's frame at its bits, whose program has the same text. -/
theorem frame_kernel : Cert.quiescent_Kernel := fun m ρ _ => frame_under (F := Bits) Cert.Kernel.defs defs_same m ρ

/-- And the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

section
open Cert.KernelIdeal Cert.KernelIdeal.Gen
variable {F : FTy → Type} [FloatOps F]
variable (m : (ℓ : Loc nD τ sig) → Buf (Elt F) ℓ) (ρ : Dev nD → PrngReg)

/-- The result array ends at what the body leaves in its staging buffer, which is written back once and whole. -/
theorem final_out (c : Dev nD) : finalA m c 0 = outC m c := by
  refine (dats m 0 c).arrAt_eq_of_after_last 0 t0_0 (by decide +kernel) _ (fun j => ?_)
  rfl

/-- Every device's result array at the computed contents, its arguments kept. -/
theorem run_value : θ_run defs (onTc (τ := τ) (main (F := F))) ⟨m, fun _ => 0, ρ⟩
    (fun r => ∀ c : Dev nD, r.2.mem ((c.tc : Thread nD τ).loc main_v1) = outC m c ∧ ArgsKept m c r.2) :=
  (θ_run defs _ _).mono (fun _ h c => ⟨((h.1 c).1 0).trans (final_out m c), (h.1 c).2⟩) (run_all m ρ)
end

end Cert.MlpProof

end
-- ==== Proof.Algebra.lean ====
/-
# Sums and products of finite extended reals

What the equation of the two programs needs of the extended reals: sums and products of finite values are finite, so a
triple product may be summed in either order; and a sum over 4096 positions is a sum over 32 blocks of 128.
-/
module

public import Mathlib.Data.EReal.Operations
public import Mathlib.Algebra.BigOperators.Ring.Finset
public import Mathlib.Algebra.BigOperators.Fin
public import Mathlib.Logic.Equiv.Fin.Basic

@[expose] public section

namespace Cert.MlpProof

open scoped BigOperators

/-- The value is a real number. -/
def IsReal (x : EReal) : Prop := ∃ r : ℝ, x = (r : EReal)

/-- A value whose magnitude is below `⊤` is a real number. -/
theorem isReal_of_abs_lt {x : EReal} (h : max x (-x) < ⊤) : IsReal x := by
  rw [max_lt_iff] at h
  refine ⟨x.toReal, (EReal.coe_toReal h.1.ne ?_).symm⟩
  rintro rfl
  exact absurd h.2 (by simp)

/-- The reals' sum, read as an extended real, is the sum of the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum of products of real numbers is a real number. -/
theorem isReal_dot {n : ℕ} {a b : Fin n → EReal} (ha : ∀ k, IsReal (a k)) (hb : ∀ k, IsReal (b k)) : IsReal (∑ k, a k * b k) := by
  choose p hp using ha
  choose q hq using hb
  exact ⟨∑ k, p k * q k, by rw [coe_sum]; exact Finset.sum_congr rfl fun k _ => by rw [hp, hq, EReal.coe_mul]⟩

/-- The larger of a real number and zero is a real number. -/
theorem isReal_relu {x : EReal} (hx : IsReal x) : IsReal (max x 0) := by
  obtain ⟨r, rfl⟩ := hx
  rcases max_choice (r : EReal) 0 with h | h
  · exact ⟨r, h⟩
  · exact ⟨0, h⟩

/-- A triple product of finite values may be summed in either order. -/
theorem dot_assoc {n k : ℕ} {a : Fin n → EReal} {b : Fin n → Fin k → EReal} {c : Fin k → EReal}
    (ha : ∀ i, IsReal (a i)) (hb : ∀ i j, IsReal (b i j)) (hc : ∀ j, IsReal (c j)) :
    ∑ i, a i * (∑ j, b i j * c j) = ∑ j, (∑ i, a i * b i j) * c j := by
  choose p hp using ha
  choose q hq using hb
  choose r hr using hc
  have hl : ∑ i, a i * (∑ j, b i j * c j) = ((∑ i, p i * (∑ j, q i j * r j) : ℝ) : EReal) := by
    rw [coe_sum]
    refine Finset.sum_congr rfl fun i _ => ?_
    rw [EReal.coe_mul, coe_sum, hp]
    exact congrArg _ (Finset.sum_congr rfl fun j _ => by rw [hq, hr, EReal.coe_mul])
  have hr' : ∑ j, (∑ i, a i * b i j) * c j = ((∑ j, (∑ i, p i * q i j) * r j : ℝ) : EReal) := by
    rw [coe_sum]
    refine Finset.sum_congr rfl fun j _ => ?_
    rw [EReal.coe_mul, coe_sum, hr]
    exact congrArg (· * _) (Finset.sum_congr rfl fun i _ => by rw [hp, hq, EReal.coe_mul])
  rw [hl, hr']
  refine congrArg _ ?_
  simp only [Finset.mul_sum, Finset.sum_mul]
  rw [Finset.sum_comm]
  exact Finset.sum_congr rfl fun j _ => Finset.sum_congr rfl fun i _ => (mul_assoc _ _ _).symm

/-- Position `k` of block `d`, of 32 blocks of 128. -/
def at128 (d : Fin 32) (k : Fin 128) : Fin 4096 := ⟨d.val * 128 + k.val, by have := d.isLt; have := k.isLt; omega⟩

/-- The block and the position in it of one of 4096 positions. -/
def blocks : Fin 32 × Fin 128 ≃ Fin 4096 where
  toFun p := at128 p.1 p.2
  invFun n := (⟨n.val / 128, by have := n.isLt; omega⟩, ⟨n.val % 128, Nat.mod_lt _ (by decide)⟩)
  left_inv p := by
    have h1 := p.1.isLt
    have h2 := p.2.isLt
    refine Prod.ext (Fin.ext ?_) (Fin.ext ?_)
    · show (p.1.val * 128 + p.2.val) / 128 = p.1.val; omega
    · show (p.1.val * 128 + p.2.val) % 128 = p.2.val; omega
  right_inv n := Fin.ext (by show n.val / 128 * 128 + n.val % 128 = n.val; omega)

/-- A sum over 4096 positions, block by block. -/
theorem sum_blocks (f : Fin 4096 → EReal) : ∑ d, ∑ k, f (at128 d k) = ∑ n, f n := by
  rw [← Fintype.sum_prod_type' fun d k => f (at128 d k)]
  exact Equiv.sum_comp blocks f

/-- Every position lies in a block. -/
theorem exists_at128 (n : Fin 4096) : ∃ d k, at128 d k = n := ⟨_, _, blocks.apply_symm_apply n⟩

end Cert.MlpProof
-- ==== Proof.Value.lean ====
/-
# What the kernel's buffers hold over the extended reals

Each of the buffers' contents at an element, in terms of the arguments' blocks: the gathered weight products and the first
layer as sums over the devices, the second and third layers from them, and the result.
-/
module

public import proofs.«01_k».proof.Proof.Contents
public import Idealize.ShloMosaic.Lib.ValueIdx
public import Idealize.ShloMosaic.Lib.MatmulPlain
public import Idealize.ShloMosaic.Lib.Pointwise.Reduce
public import Idealize.ShloMosaic.PureOps.Ideal.Laws
public import Idealize.ShloMosaic.Lib.Pipeline.Value

@[expose] public section

noncomputable section

namespace Cert.MlpProof

open Cert.KernelIdeal Cert.KernelIdeal.Gen
open Idealize.ShloMosaic hiding ix2 ix3 eq_ix2 eq_ix3
open Idealize.ShloMosaic.TcCoe Idealize.ShloMosaic.ValueIdx
open scoped BigOperators

/-! ## The operations of the body at an element -/

/-- A plain matrix product onto zeros, at row `r` and column `c`. -/
theorem mm_apply {M K N : ℕ} {φ₁ φ₂ : FTy} {d : DotDims ⟨2, ![M, K]⟩ ⟨2, ![K, N]⟩ ⟨2, ![M, N]⟩} (hd : d = DotDims.plain M K N)
    (a : FVec Ideal ⟨2, ![M, K]⟩ φ₁) (b : FVec Ideal ⟨2, ![K, N]⟩ φ₂) (r : Fin M) (c : Fin N) :
    matmul d none a b (constant (F := Ideal) ⟨2, ![M, N]⟩ .f32 0x00000000#32) (ix2 r c) = ∑ k : Fin K, a (ix2 r k) * b (ix2 k c) := by
  subst hd
  refine (Ideal.matmul_plain_apply none a b _ r c).trans ?_
  rw [constant_apply, Ideal.ofBits_zero_f32, zero_add]

/-- A device's product of `Wout` and `Win` blocks. -/
theorem pay1_apply (a : FVec Ideal S256x128 .f32) (b : FVec Ideal S128x256 .f32) (r c : Fin 256) :
    k0_pay1 (F := Ideal) a b (ix2 r c) = ∑ k : Fin 128, a (ix2 r k) * b (ix2 k c) := by
  unfold k0_pay1
  rw [shapeCast_self]
  exact mm_apply rfl a b r c
/-- The same, for the second pair of weights. -/
theorem pay2_apply (a : FVec Ideal S256x128 .f32) (b : FVec Ideal S128x256 .f32) (r c : Fin 256) :
    k0_pay2 (F := Ideal) a b zeroAcc (ix2 r c) = ∑ k : Fin 128, a (ix2 r k) * b (ix2 k c) := by
  unfold k0_pay2
  rw [shapeCast_self]
  exact mm_apply rfl a b r c
/-- A device's product of the `x` and first `Win` blocks. -/
theorem pay3_apply (a : FVec Ideal S128x128 .f32) (b : FVec Ideal S128x256 .f32) (r : Fin 128) (c : Fin 256) :
    k0_pay3 (F := Ideal) a b (ix2 r c) = ∑ k : Fin 128, a (ix2 r k) * b (ix2 k c) := by
  unfold k0_pay3
  rw [shapeCast_self]
  exact mm_apply rfl a b r c
/-- The sum of the received weight products over the devices. -/
theorem pay4_apply (v : FVec Ideal S32x16x256 .bf16) (r : Fin 16) (c : Fin 256) :
    k0_pay5 (F := Ideal) (k0_pay4 v) (ix2 r c) = ∑ d : Fin 32, v (ix3 d r c) := by
  unfold k0_pay5 k0_pay4
  rw [shapeCast_self]
  exact Ideal.reduceAdd_r3_a0 _ _ _
/-- The sum of the received first-layer products over the devices. -/
theorem pay6_apply (v : FVec Ideal S32x4x256 .f32) (r : Fin 4) (c : Fin 256) :
    k0_pay6 (F := Ideal) v (ix2 r c) = ∑ d : Fin 32, v (ix3 d r c) := by
  unfold k0_pay6
  exact Ideal.reduceAdd_r3_a0 _ _ _
/-- The first layer's rectifier. -/
theorem pay8_apply (v : FVec Ideal S4x256 .f32) (i : S4x256.Idx) : k0_pay8 (F := Ideal) v k0_pay7 i = max (v i) 0 := by
  show max (v i) (Ideal.ofBits .f32 0x00000000#32) = _
  rw [Ideal.ofBits_zero_f32]
/-- The second layer: a product and its rectifier. -/
theorem pay9_apply (a : FVec Ideal S4x256 .bf16) (b : FVec Ideal S256x256 .bf16) (r : Fin 4) (c : Fin 256) :
    k0_pay9 (F := Ideal) a b (ix2 r c) = max (∑ k : Fin 256, a (ix2 r k) * b (ix2 k c)) 0 := by
  rw [← mm_apply (d := dot_S4x256_S256x256_S4x256_1_0_0_1_n_n) rfl a b r c, ← Ideal.ofBits_zero_f32]
  rfl
/-- The third layer: a product and its rectifier. -/
theorem pay10_apply (a : FVec Ideal S4x256 .bf16) (b : FVec Ideal S256x256 .bf16) (r : Fin 4) (c : Fin 256) :
    k0_pay10 (F := Ideal) a b (ix2 r c) = max (∑ k : Fin 256, a (ix2 r k) * b (ix2 k c)) 0 := by
  unfold k0_pay10
  rw [shapeCast_self, ← mm_apply (d := dot_S4x256_S256x256_S4x256_1_0_0_1_n_n) rfl a b r c, ← Ideal.ofBits_zero_f32]
  rfl
/-- The last product. -/
theorem pay11_apply (a : FVec Ideal S128x256 .f32) (b : FVec Ideal S256x128 .f32) (r : Fin 128) (c : Fin 128) :
    k0_pay11 (F := Ideal) a b (ix2 r c) = ∑ k : Fin 256, a (ix2 r k) * b (ix2 k c) :=
  mm_apply (d := dot_S128x256_S256x128_S128x128_1_0_0_1_n_n) rfl a b r c

/-! ## The buffers -/

variable (m : (ℓ : Loc nD τ sig) → Buf (Elt Ideal) ℓ)

/-- The gathered products: at each element the sum over the devices. -/
theorem full_apply (r : Fin 512) (c : Fin 256) : fullC m (ix2 r c) = ∑ d : Fin 32, wfSrcC m d (ix2 r c) := by
  unfold fullC redC
  refine (pay4_apply _ _ _).trans (Finset.sum_congr rfl fun d _ => ?_)
  show wfSrcC m d (ix2 (row16 _ _) c) = _
  congr 2
  exact Fin.ext (by show 16 * (r.val / 16) + r.val % 16 = r.val; omega)

/-- The first of them: `Wout0` by `Win1`. -/
theorem top_apply (r c : Fin 256) : topC m (ix2 r c) = ∑ d : Fin 32, ∑ k : Fin 128, wout0C m d (ix2 r k) * win1C m d (ix2 k c) := by
  refine (full_apply m _ _).trans (Finset.sum_congr rfl fun d _ => ?_)
  refine Eq.trans ?_ (pay1_apply _ _ _ _)
  exact dif_pos (show r.val < 256 from r.isLt)

/-- The second: `Wout1` by `Win2`. -/
theorem bot_apply (r c : Fin 256) : botC m (ix2 r c) = ∑ d : Fin 32, ∑ k : Fin 128, wout1C m d (ix2 r k) * win2C m d (ix2 k c) := by
  refine (full_apply m _ _).trans (Finset.sum_congr rfl fun d _ => ?_)
  refine Eq.trans ?_ (pay2_apply _ _ _ _)
  refine (dif_neg (show ¬ 256 + r.val < 256 by omega)).trans ?_
  congr 2
  exact Fin.ext (by show 256 + r.val - 256 = r.val; omega)

/-- The first layer's rows on a device. -/
theorem h1_apply (c : Dev nD) (r : Fin 4) (j : Fin 256) :
    h1C m c (ix2 r j) = max (∑ d : Fin 32, ∑ k : Fin 128, xC m d (ix2 (row4 c r) k) * win0C m d (ix2 k j)) 0 := by
  unfold h1C
  rw [pay8_apply, pay6_apply]
  refine congrArg (max · 0) (Finset.sum_congr rfl fun d _ => ?_)
  exact pay3_apply _ _ _ _

/-- The third layer's rows on a device. -/
theorem h3red_apply (c : Dev nD) (r : Fin 4) (j : Fin 256) :
    h3redC m c (ix2 r j)
      = max (∑ k : Fin 256, max (∑ l : Fin 256, h1C m c (ix2 r l) * topC m (ix2 l k)) 0 * botC m (ix2 k j)) 0 := by
  unfold h3redC
  rw [pay10_apply]
  exact congrArg (max · 0) (Finset.sum_congr rfl fun k _ => congrArg (· * _) (pay9_apply _ _ _ _))

/-- The result on a device: the third layer by its columns of `Wout2`. -/
theorem out_apply (c : Dev nD) (r : Fin 128) (j : Fin 128) :
    outC m c (ix2 r j) = ∑ k : Fin 256, h3C m (ix2 r k) * wout2C m c (ix2 k j) := pay11_apply _ _ _ _

end Cert.MlpProof

end
-- ==== Proof.Algebraic.lean ====
/-
# The kernel against the reference

The kernel multiplies the weights of two neighbouring layers together before it multiplies by the activations; the reference
multiplies from left to right. On finite inputs the two orders agree, and the kernel's sums over the devices are the
reference's sums over the cut dimension.
-/
module

public import proofs.«01_k».proof.Defs
public import proofs.«01_k».proof.Proof.Algebra
public import proofs.«01_k».proof.Proof.Value
public import proofs.«01_k».proof.Proof.Frames
public import proofs.«01_k».proof.Proof.Gen.Pre_finite_KernelIdeal
public import Idealize.ShloMosaic.Lib.ReduceAll
public import Idealize.ShloMosaic.Lib.IdealHost
public import Idealize.ShloMosaic.Lib.StackMember
public import Idealize.ShloMosaic.Lib.Layout

@[expose] public section

noncomputable section

namespace Cert.MlpProof

open Idealize.ShloMosaic hiding ix0 ix2 ix3 eq_ix2 eq_ix3
open Idealize.ShloMosaic.TcCoe Idealize.ShloMosaic.ValueIdx
open Idealize.SL.Sem
open scoped BigOperators

/-! ## The precondition -/

/-- `jnp.all(jnp.abs(x) < jnp.inf)`, read at an element. -/
theorem real_of_all {s t : Shape} [Subsingleton t.Idx] {axes : List (Fin s.rank)} (x : FVec Ideal s .f32)
    (hb : (⟨0, ![]⟩ : Shape).BroadcastsInDim s ![]) (h : s.ReducesTo axes t) (hu : 0 < (⟨0, ![]⟩ : Shape).numel) (j : t.Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : IsReal (x i) := by
  have hi := Host.reduce_andi_all _ _ h hu j e i
  have htop : Ideal.ofBits .f32 0x7F800000#32 = ⊤ := by simp [Ideal.ofBits, Ideal.ieee]
  have h2 : Ideal.cmp .olt (max (x i : EReal) (-(x i : EReal))) (Ideal.ofBits .f32 0x7F800000#32) = 1#1 := hi
  rw [htop] at h2
  refine isReal_of_abs_lt ?_
  by_contra hn
  unfold Ideal.cmp at h2
  simp [hn] at h2

section
open Cert.KernelIdeal Cert.KernelIdeal.Gen
variable (m : (ℓ : Loc nD τ sig) → Buf (Elt Ideal) ℓ)

/-- On memories that satisfy the precondition a device's blocks of the first six arguments are finite. -/
theorem real_args (hm : Cert.Pre_KernelIdeal_finite_KernelIdeal (hPre_finite_KernelIdeal := Cert.Pre_finite_KernelIdeal.Gen.facts) m) (c : Dev nD) :
    (∀ i, IsReal (xC m c i)) ∧ (∀ i, IsReal (win0C m c i)) ∧ (∀ i, IsReal (win1C m c i)) ∧ (∀ i, IsReal (win2C m c i))
      ∧ (∀ i, IsReal (wout0C m c i)) ∧ ∀ i, IsReal (wout1C m c i) := by
  have h := congrFun (hm c) ix0
  have hs : Subsingleton (⟨0, ![]⟩ : Shape).Idx := ⟨fun a b => funext fun k => k.elim0⟩
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ h0, real_of_all _ _ _ _ _ h1, real_of_all _ _ _ _ _ h2, real_of_all _ _ _ _ _ h3,
    real_of_all _ _ _ _ _ h4, real_of_all _ _ _ _ _ h5⟩
end

/-! ## The blocks of an argument -/

/-- A device's block of columns at an element. -/
theorem block_cols {n : ℕ} (v : (⟨2, ![n, 4096]⟩ : Shape).Idx → EReal) (h : Layout.Tiles ⟨2, ![n, 128]⟩ ⟨2, ![n, 4096]⟩ 1 32)
    (d : Fin 32) (r : Fin n) (k : Fin 128) : Layout.block ⟨2, ![n, 128]⟩ ⟨2, ![n, 4096]⟩ 1 32 d v h (ix2 r k) = v (ix2 r (at128 d k)) := by
  rw [Layout.block_apply]
  refine congrArg v ?_
  rw [eq_ix2 (h.idx d (ix2 r k))]
  rfl

/-- A device's block of rows at an element. -/
theorem block_rows {n : ℕ} (v : (⟨2, ![4096, n]⟩ : Shape).Idx → EReal) (h : Layout.Tiles ⟨2, ![128, n]⟩ ⟨2, ![4096, n]⟩ 0 32)
    (d : Fin 32) (k : Fin 128) (j : Fin n) : Layout.block ⟨2, ![128, n]⟩ ⟨2, ![4096, n]⟩ 0 32 d v h (ix2 k j) = v (ix2 (at128 d k) j) := by
  rw [Layout.block_apply]
  refine congrArg v ?_
  rw [eq_ix2 (h.idx d (ix2 k j))]
  rfl

/-- The sum over the devices of the products of their blocks is the product of the whole arrays. -/
theorem dot_blocks {a b : ℕ} {A : (⟨2, ![a, 4096]⟩ : Shape).Idx → EReal} {B : (⟨2, ![4096, b]⟩ : Shape).Idx → EReal}
    {f : Fin 32 → (⟨2, ![a, 128]⟩ : Shape).Idx → EReal} {g : Fin 32 → (⟨2, ![128, b]⟩ : Shape).Idx → EReal}
    (hA : ∀ d r k, f d (ix2 r k) = A (ix2 r (at128 d k))) (hB : ∀ d k j, g d (ix2 k j) = B (ix2 (at128 d k) j)) (r : Fin a) (j : Fin b) :
    ∑ d, ∑ k, f d (ix2 r k) * g d (ix2 k j) = ∑ n, A (ix2 r n) * B (ix2 n j) := by
  rw [← sum_blocks]
  exact Finset.sum_congr rfl fun d _ => Finset.sum_congr rfl fun k _ => by rw [hA, hB]

/-- An array all of whose blocks of columns are finite is finite. -/
theorem real_cols {a : ℕ} {A : (⟨2, ![a, 4096]⟩ : Shape).Idx → EReal} {f : Fin 32 → (⟨2, ![a, 128]⟩ : Shape).Idx → EReal}
    (hA : ∀ d r k, f d (ix2 r k) = A (ix2 r (at128 d k))) (hf : ∀ d i, IsReal (f d i)) (r : Fin a) (n : Fin 4096) : IsReal (A (ix2 r n)) := by
  obtain ⟨d, k, rfl⟩ := exists_at128 n
  exact hA d r k ▸ hf d _

/-- An array all of whose blocks of rows are finite is finite. -/
theorem real_rows {b : ℕ} {B : (⟨2, ![4096, b]⟩ : Shape).Idx → EReal} {g : Fin 32 → (⟨2, ![128, b]⟩ : Shape).Idx → EReal}
    (hB : ∀ d k j, g d (ix2 k j) = B (ix2 (at128 d k) j)) (hg : ∀ d i, IsReal (g d i)) (n : Fin 4096) (j : Fin b) : IsReal (B (ix2 n j)) := by
  obtain ⟨d, k, rfl⟩ := exists_at128 n
  exact hB d k j ▸ hg d _

/-! ## The reference -/

section
open Cert.ReferenceIdeal Cert.ReferenceIdeal.Gen

/-- The reference's first layer. -/
def refFirst (X : FVec Ideal S128x4096 .f32) (W : FVec Ideal S4096x256 .f32) : FVec Ideal S128x256 .f32 :=
  maximumf (Host.dotGeneral dot_S128x4096_S4096x256_S128x256_1_0_0_1_n_n none X W) (broadcastInDim S128x256 ![] bcast_S_S128x256 (constant S_ .f32 0x00000000#32))

/-- A later layer of the reference: out of the hidden width and back into it. -/
def refNext (H : FVec Ideal S128x256 .f32) (U : FVec Ideal S256x4096 .f32) (W : FVec Ideal S4096x256 .f32) : FVec Ideal S128x256 .f32 :=
  refFirst (Host.dotGeneral dot_S128x256_S256x4096_S128x4096_1_0_0_1_n_n none H U) W

/-- The reference's result. -/
def refOut (X : FVec Ideal S128x4096 .f32) (W0 W1 W2 : FVec Ideal S4096x256 .f32) (U0 U1 U2 : FVec Ideal S256x4096 .f32) : FVec Ideal S128x4096 .f32 :=
  Host.dotGeneral dot_S128x256_S256x4096_S128x4096_1_0_0_1_n_n none (refNext (refNext (refFirst X W0) U0 W1) U1 W2) U2

/-- The product that widens, at an element. -/
theorem wide_apply (H : FVec Ideal S128x256 .f32) (U : FVec Ideal S256x4096 .f32) (r : Fin 128) (n : Fin 4096) :
    Host.dotGeneral dot_S128x256_S256x4096_S128x4096_1_0_0_1_n_n none H U (ix2 r n) = ∑ l : Fin 256, H (ix2 r l) * U (ix2 l n) :=
  StackMember.dotGeneral_plain_apply none H U r n

/-- The first layer at an element. -/
theorem refFirst_apply (X : FVec Ideal S128x4096 .f32) (W : FVec Ideal S4096x256 .f32) (r : Fin 128) (j : Fin 256) :
    refFirst X W (ix2 r j) = max (∑ n : Fin 4096, X (ix2 r n) * W (ix2 n j)) 0 := by
  rw [← StackMember.dotGeneral_plain_apply none X W r j, ← Ideal.ofBits_zero_f32]
  rfl

/-- The first layer of finite arrays is finite. -/
theorem refFirst_real {X : FVec Ideal S128x4096 .f32} {W : FVec Ideal S4096x256 .f32} (hX : ∀ r n, IsReal (X (ix2 r n)))
    (hW : ∀ n j, IsReal (W (ix2 n j))) (r : Fin 128) (j : Fin 256) : IsReal (refFirst X W (ix2 r j)) := by
  rw [refFirst_apply]
  exact isReal_relu (isReal_dot (fun n => hX r n) fun n => hW n j)

/-- A later layer of finite arrays is finite. -/
theorem refNext_real {H : FVec Ideal S128x256 .f32} {U : FVec Ideal S256x4096 .f32} {W : FVec Ideal S4096x256 .f32}
    (hH : ∀ r l, IsReal (H (ix2 r l))) (hU : ∀ l n, IsReal (U (ix2 l n))) (hW : ∀ n j, IsReal (W (ix2 n j))) (r : Fin 128) (j : Fin 256) :
    IsReal (refNext H U W (ix2 r j)) :=
  refFirst_real (fun r n => by rw [wide_apply]; exact isReal_dot (fun l => hH r l) fun l => hU l n) hW r j

/-- A later layer of finite arrays, with the two weights multiplied first. -/
theorem refNext_apply {H : FVec Ideal S128x256 .f32} {U : FVec Ideal S256x4096 .f32} {W : FVec Ideal S4096x256 .f32}
    (hH : ∀ r l, IsReal (H (ix2 r l))) (hU : ∀ l n, IsReal (U (ix2 l n))) (hW : ∀ n j, IsReal (W (ix2 n j))) (r : Fin 128) (j : Fin 256) :
    refNext H U W (ix2 r j) = max (∑ l : Fin 256, H (ix2 r l) * ∑ n : Fin 4096, U (ix2 l n) * W (ix2 n j)) 0 := by
  rw [refNext, refFirst_apply]
  refine congrArg (max · 0) ?_
  rw [dot_assoc (fun l => hH r l) (fun l n => hU l n) fun n => hW n j]
  exact Finset.sum_congr rfl fun n _ => by rw [wide_apply]
end

/-! ## The two programs -/

section
open Cert.KernelIdeal Cert.KernelIdeal.Gen
variable (m : (ℓ : Loc nD τ sig) → Buf (Elt Ideal) ℓ)
variable {X : FVec Ideal Cert.ReferenceIdeal.S128x4096 .f32} {W0 W1 W2 : FVec Ideal Cert.ReferenceIdeal.S4096x256 .f32}
  {U0 U1 U2 : FVec Ideal Cert.ReferenceIdeal.S256x4096 .f32}

/-- Row `r` of the hidden layers is row `r % 4` of device `r / 4`. -/
theorem row4_div_mod (r : Fin 128) (h : r.val / 4 < 32) : row4 ⟨r.val / 4, h⟩ ⟨r.val % 4, Nat.mod_lt _ (by decide)⟩ = r :=
  Fin.ext (by show 4 * (r.val / 4) + r.val % 4 = r.val; omega)

/-- The gathered third layer is the reference's, where the devices' blocks are those of finite arrays. -/
theorem h3_eq (hx : ∀ d r k, xC m d (ix2 r k) = X (ix2 r (at128 d k)))
    (hw0 : ∀ d k j, win0C m d (ix2 k j) = W0 (ix2 (at128 d k) j)) (hw1 : ∀ d k j, win1C m d (ix2 k j) = W1 (ix2 (at128 d k) j))
    (hw2 : ∀ d k j, win2C m d (ix2 k j) = W2 (ix2 (at128 d k) j)) (hu0 : ∀ d r k, wout0C m d (ix2 r k) = U0 (ix2 r (at128 d k)))
    (hu1 : ∀ d r k, wout1C m d (ix2 r k) = U1 (ix2 r (at128 d k)))
    (rX : ∀ r n, IsReal (X (ix2 r n))) (rW0 : ∀ n j, IsReal (W0 (ix2 n j))) (rW1 : ∀ n j, IsReal (W1 (ix2 n j)))
    (rW2 : ∀ n j, IsReal (W2 (ix2 n j))) (rU0 : ∀ l n, IsReal (U0 (ix2 l n))) (rU1 : ∀ l n, IsReal (U1 (ix2 l n)))
    (r : Fin 128) (j : Fin 256) :
    h3C m (ix2 r j) = refNext (refNext (refFirst X W0) U0 W1) U1 W2 (ix2 r j) := by
  have r1 := refFirst_real rX rW0
  rw [refNext_apply (refNext_real r1 rU0 rW1) rU1 rW2]
  refine (h3red_apply m _ _ _).trans (congrArg (max · 0) (Finset.sum_congr rfl fun k _ => ?_))
  rw [bot_apply, dot_blocks hu1 hw2, refNext_apply r1 rU0 rW1]
  refine congrArg (fun z => max z 0 * _) (Finset.sum_congr rfl fun l _ => ?_)
  rw [top_apply, dot_blocks hu0 hw1, h1_apply, dot_blocks hx hw0, refFirst_apply]
  congr 5
  all_goals exact funext fun n => by rw [show row4 _ _ = r from row4_div_mod r _]
end

/-- On finite inputs the kernel's devices end holding the columns of the reference's result. -/
theorem algebraic : Cert.algebraic_KernelIdeal_ReferenceIdeal_pre_finite_KernelIdeal
    (hKernelIdeal := Cert.KernelIdeal.Gen.facts) (hReferenceIdeal := Cert.ReferenceIdeal.Gen.facts)
    (hPre_finite_KernelIdeal := Cert.Pre_finite_KernelIdeal.Gen.facts) := by
  intro m g m' g' hm hblk
  let A0 : FVec Ideal Cert.ReferenceIdeal.S128x4096 .f32 := m' (((0 : Dev Cert.ReferenceIdeal.nD).tc : Thread Cert.ReferenceIdeal.nD Cert.ReferenceIdeal.τ).loc Cert.ReferenceIdeal.main_arg0)
  let A1 : FVec Ideal Cert.ReferenceIdeal.S4096x256 .f32 := m' (((0 : Dev Cert.ReferenceIdeal.nD).tc : Thread Cert.ReferenceIdeal.nD Cert.ReferenceIdeal.τ).loc Cert.ReferenceIdeal.main_arg1)
  let A2 : FVec Ideal Cert.ReferenceIdeal.S4096x256 .f32 := m' (((0 : Dev Cert.ReferenceIdeal.nD).tc : Thread Cert.ReferenceIdeal.nD Cert.ReferenceIdeal.τ).loc Cert.ReferenceIdeal.main_arg2)
  let A3 : FVec Ideal Cert.ReferenceIdeal.S4096x256 .f32 := m' (((0 : Dev Cert.ReferenceIdeal.nD).tc : Thread Cert.ReferenceIdeal.nD Cert.ReferenceIdeal.τ).loc Cert.ReferenceIdeal.main_arg3)
  let A4 : FVec Ideal Cert.ReferenceIdeal.S256x4096 .f32 := m' (((0 : Dev Cert.ReferenceIdeal.nD).tc : Thread Cert.ReferenceIdeal.nD Cert.ReferenceIdeal.τ).loc Cert.ReferenceIdeal.main_arg4)
  let A5 : FVec Ideal Cert.ReferenceIdeal.S256x4096 .f32 := m' (((0 : Dev Cert.ReferenceIdeal.nD).tc : Thread Cert.ReferenceIdeal.nD Cert.ReferenceIdeal.τ).loc Cert.ReferenceIdeal.main_arg5)
  let A6 : FVec Ideal Cert.ReferenceIdeal.S256x4096 .f32 := m' (((0 : Dev Cert.ReferenceIdeal.nD).tc : Thread Cert.ReferenceIdeal.nD Cert.ReferenceIdeal.τ).loc Cert.ReferenceIdeal.main_arg6)
  have hx : ∀ d r k, xC m d (ix2 r k) = A0 (ix2 r (at128 d k)) := fun d r k => (congrFun (hblk d).1 _).trans (block_cols _ _ d r k)
  have hw0 : ∀ d k j, win0C m d (ix2 k j) = A1 (ix2 (at128 d k) j) := fun d k j => (congrFun (hblk d).2.1 _).trans (block_rows _ _ d k j)
  have hw1 : ∀ d k j, win1C m d (ix2 k j) = A2 (ix2 (at128 d k) j) := fun d k j => (congrFun (hblk d).2.2.1 _).trans (block_rows _ _ d k j)
  have hw2 : ∀ d k j, win2C m d (ix2 k j) = A3 (ix2 (at128 d k) j) := fun d k j => (congrFun (hblk d).2.2.2.1 _).trans (block_rows _ _ d k j)
  have hu0 : ∀ d r k, wout0C m d (ix2 r k) = A4 (ix2 r (at128 d k)) := fun d r k => (congrFun (hblk d).2.2.2.2.1 _).trans (block_cols _ _ d r k)
  have hu1 : ∀ d r k, wout1C m d (ix2 r k) = A5 (ix2 r (at128 d k)) := fun d r k => (congrFun (hblk d).2.2.2.2.2.1 _).trans (block_cols _ _ d r k)
  have hu2 : ∀ d r k, wout2C m d (ix2 r k) = A6 (ix2 r (at128 d k)) := fun d r k => (congrFun (hblk d).2.2.2.2.2.2 _).trans (block_cols _ _ d r k)
  have hr := real_args m hm
  have h3 := h3_eq m hx hw0 hw1 hw2 hu0 hu1 (real_cols hx fun d => (hr d).1) (real_rows hw0 fun d => (hr d).2.1)
    (real_rows hw1 fun d => (hr d).2.2.1) (real_rows hw2 fun d => (hr d).2.2.2.1) (real_cols hu0 fun d => (hr d).2.2.2.2.1)
    (real_cols hu1 fun d => (hr d).2.2.2.2.2)
  have ho : ∀ c (r : Fin 128) (j : Fin 128), outC m c (ix2 r j) = refOut A0 A1 A2 A3 A4 A5 A6 (ix2 r (at128 c j)) := fun c r j =>
    (out_apply m c r j).trans ((Finset.sum_congr rfl fun k _ => congrArg₂ (· * ·) (h3 r k) (hu2 c k j)).trans (wide_apply _ _ _ _).symm)
  refine ⟨refOut A0 A1 A2 A3 A4 A5 A6, (θ_run Cert.KernelIdeal.defs _ _).mono (fun r h c => ⟨(h c).1.trans ?_, (h c).2⟩) (run_value m g),
    (θ_run Cert.ReferenceIdeal.defs _ _).mono (fun r h => h 0) (Cert.ReferenceIdeal.Value.run m' g')⟩
  funext i
  exact (congrArg (outC m c) (eq_ix2 i)).trans ((ho c (i 0) (i 1)).trans ((block_cols _ _ c (i 0) (i 1)).symm.trans (congrArg _ (eq_ix2 i).symm)))

end Cert.MlpProof

end
-- ==== Proof.lean ====
/-
# The certificate

The side conditions of the programs and predicates, then each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

open Cert.MlpProof

/-- Every claim: the frames of the kernel, of its ideal reading and of the reference, and the equation of the last two. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, fun m g _ => frame_kernelIdeal m g trivial,
    frame_reference, fun m g _ => frame_reference m g trivial, trivial, algebraic⟩

end Cert.Proof

end
